-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_points [hPre_finite_points : Cert.Pre_finite_points.Facts] (m : (ℓ : Loc Cert.KernelIdeal.nD Cert.KernelIdeal.τ Cert.KernelIdeal.sig) → Buf (Elt Ideal) ℓ) : Prop :=
  ∀ c : Dev Cert.KernelIdeal.nD,
    (Cert.Pre_finite_points.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_points [hPre_finite_points : Cert.Pre_finite_points.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_points.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_points [hKernelIdeal : Cert.KernelIdeal.Facts] [hPre_finite_points : Cert.Pre_finite_points.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_points m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_points [hReferenceIdeal : Cert.ReferenceIdeal.Facts] [hPre_finite_points : Cert.Pre_finite_points.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_points m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_points [hKernelIdeal : Cert.KernelIdeal.Facts] [hReferenceIdeal : Cert.ReferenceIdeal.Facts] [hPre_finite_points : Cert.Pre_finite_points.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_points m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_points : Cert.Pre_finite_points.Facts),
    quiescent_Kernel (hKernel := hKernel)
    ∧ quiescent_KernelIdeal (hKernelIdeal := hKernelIdeal)
    ∧ quiescent_KernelIdeal_pre_finite_points (hKernelIdeal := hKernelIdeal) (hPre_finite_points := hPre_finite_points)
    ∧ quiescent_ReferenceIdeal (hReferenceIdeal := hReferenceIdeal)
    ∧ quiescent_ReferenceIdeal_pre_finite_points (hReferenceIdeal := hReferenceIdeal) (hPre_finite_points := hPre_finite_points)
    ∧ preserves_Kernel_KernelIdeal
    ∧ algebraic_KernelIdeal_ReferenceIdeal_pre_finite_points (hKernelIdeal := hKernelIdeal) (hReferenceIdeal := hReferenceIdeal) (hPre_finite_points := hPre_finite_points)
-- ==== Pre_finite_points.lean ====
abbrev S16x8192x3 : Shape := ⟨3, ![16, 8192, 3]⟩
abbrev S16x8192x64 : Shape := ⟨3, ![16, 8192, 64]⟩
abbrev S_ : Shape := ⟨0, ![]⟩

class Facts : Prop where
  bcast_S_S16x8192x3 : S_.BroadcastsInDim S16x8192x3 (![] : Fin 0 → Fin S16x8192x3.rank)
  reducesTo_S16x8192x3_S_d0_1_2 : S16x8192x3.ReducesTo [0, 1, 2] S_
  h_S_ : 0 < S_.numel

variable [Facts]

def fn {F : FTy → Type} [FloatOps F] (main_arg0 : FVec F S16x8192x3 .f32) (main_arg1 : FVec F S16x8192x64 .f32) : IVec S_ 1 :=
  let main_v0 : FVec F S16x8192x3 .f32 := Host.absf main_arg0
  let main_cst : FVec F S_ .f32 := constant S_ .f32 0x7F800000#32
  let main_v1 : FVec F S16x8192x3 .f32 := broadcastInDim S16x8192x3 ![] bcast_S_S16x8192x3 main_cst
  let main_v2 : IVec S16x8192x3 1 := cmpf .olt main_v0 main_v1
  let main_c : IVec S_ 1 := constantI S_ 1 1#1
  let main_v3 : IVec S_ 1 := (fun x v => Host.reduce IntOp.andi x v reducesTo_S16x8192x3_S_d0_1_2 h_S_) main_v2 main_c
  main_v3
-- ==== Kernel.lean ====
abbrev S16x8192x3 : Shape := ⟨3, ![16, 8192, 3]⟩
abbrev S16x8192x64 : Shape := ⟨3, ![16, 8192, 64]⟩
abbrev S16x8192x1 : Shape := ⟨3, ![16, 8192, 1]⟩
abbrev S16x8192 : Shape := ⟨2, ![16, 8192]⟩
abbrev S16x512 : Shape := ⟨2, ![16, 512]⟩
abbrev S16x128 : Shape := ⟨2, ![16, 128]⟩
abbrev S16x1 : Shape := ⟨2, ![16, 1]⟩
abbrev S16 : Shape := ⟨1, ![16]⟩
abbrev S16x512x1 : Shape := ⟨3, ![16, 512, 1]⟩
abbrev S16x512x3 : Shape := ⟨3, ![16, 512, 3]⟩
abbrev S16x1x512 : Shape := ⟨3, ![16, 1, 512]⟩
abbrev S16x3x512 : Shape := ⟨3, ![16, 3, 512]⟩
abbrev S16x8192x68 : Shape := ⟨3, ![16, 8192, 68]⟩
abbrev S1x2048x3 : Shape := ⟨3, ![1, 2048, 3]⟩
abbrev S1x2048x64 : Shape := ⟨3, ![1, 2048, 64]⟩
abbrev S1x3x512 : Shape := ⟨3, ![1, 3, 512]⟩
abbrev S1x2048x68 : Shape := ⟨3, ![1, 2048, 68]⟩
abbrev S1x2048x1 : Shape := ⟨3, ![1, 2048, 1]⟩
abbrev S1x1x512 : Shape := ⟨3, ![1, 1, 512]⟩
abbrev S1x2048x512 : Shape := ⟨3, ![1, 2048, 512]⟩
abbrev S1x2048 : Shape := ⟨2, ![1, 2048]⟩

abbrev nBuf : Space → Nat
  | .hbm => 22
  | .vmem => 17
  | .smem => 0
  | _ => 0

abbrev bufTy : (tb : Table) → Fin (tcTables nBuf tb) → BufTy
  | .hbm, ⟨0, _⟩ => ⟨S16x8192x3, .f32⟩
  | .hbm, ⟨1, _⟩ => ⟨S16x8192x64, .f32⟩
  | .hbm, ⟨2, _⟩ => ⟨S16x8192x1, .f32⟩
  | .hbm, ⟨3, _⟩ => ⟨S16x8192, .f32⟩
  | .hbm, ⟨4, _⟩ => ⟨S16x8192x1, .f32⟩
  | .hbm, ⟨5, _⟩ => ⟨S16x8192, .f32⟩
  | .hbm, ⟨6, _⟩ => ⟨S16x8192x1, .f32⟩
  | .hbm, ⟨7, _⟩ => ⟨S16x8192, .f32⟩
  | .hbm, ⟨8, _⟩ => ⟨S16x512, .f32⟩
  | .hbm, ⟨9, _⟩ => ⟨S16x512, .f32⟩
  | .hbm, ⟨10, _⟩ => ⟨S16x512, .f32⟩
  | .hbm, ⟨11, _⟩ => ⟨S16x512x1, .f32⟩
  | .hbm, ⟨12, _⟩ => ⟨S16x512x1, .f32⟩
  | .hbm, ⟨13, _⟩ => ⟨S16x512x1, .f32⟩
  | .hbm, ⟨14, _⟩ => ⟨S16x512x3, .f32⟩
  | .hbm, ⟨15, _⟩ => ⟨S16x1x512, .f32⟩
  | .hbm, ⟨16, _⟩ => ⟨S16x1x512, .f32⟩
  | .hbm, ⟨17, _⟩ => ⟨S16x1x512, .f32⟩
  | .hbm, ⟨18, _⟩ => ⟨S16x3x512, .f32⟩
  | .hbm, ⟨19, _⟩ => ⟨S16x8192x68, .f32⟩
  | .hbm, ⟨20, _⟩ => ⟨S16x8192x1, .i32⟩
  | .hbm, ⟨21, _⟩ => ⟨S16x8192, .i32⟩
  | .local _ .vmem, ⟨0, _⟩ => ⟨S16x8192, .f32⟩
  | .local _ .vmem, ⟨1, _⟩ => ⟨S16x8192, .f32⟩
  | .local _ .vmem, ⟨2, _⟩ => ⟨S16x8192, .f32⟩
  | .local _ .vmem, ⟨3, _⟩ => ⟨S16x512, .f32⟩
  | .local _ .vmem, ⟨4, _⟩ => ⟨S16x512, .f32⟩
  | .local _ .vmem, ⟨5, _⟩ => ⟨S16x512, .f32⟩
  | .local _ .vmem, ⟨6, _⟩ => ⟨S16x8192, .f32⟩
  | .local _ .vmem, ⟨7, _⟩ => ⟨S1x2048x3, .f32⟩
  | .local _ .vmem, ⟨8, _⟩ => ⟨S1x2048x3, .f32⟩
  | .local _ .vmem, ⟨9, _⟩ => ⟨S1x2048x64, .f32⟩
  | .local _ .vmem, ⟨10, _⟩ => ⟨S1x2048x64, .f32⟩
  | .local _ .vmem, ⟨11, _⟩ => ⟨S1x3x512, .f32⟩
  | .local _ .vmem, ⟨12, _⟩ => ⟨S1x3x512, .f32⟩
  | .local _ .vmem, ⟨13, _⟩ => ⟨S1x2048x68, .f32⟩
  | .local _ .vmem, ⟨14, _⟩ => ⟨S1x2048x68, .f32⟩
  | .local _ .vmem, ⟨15, _⟩ => ⟨S1x2048x1, .i32⟩
  | .local _ .vmem, ⟨16, _⟩ => ⟨S1x2048x1, .i32⟩
  | _, _ => ⟨S16x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6_0 : Ref sig .tc := ⟨.hbm, 8, rfl⟩
abbrev main_v6_1 : Ref sig .tc := ⟨.hbm, 9, rfl⟩
abbrev main_v6_2 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15_0 : Ref sig .tc := ⟨.hbm, 19, rfl⟩
abbrev main_v15_1 : Ref sig .tc := ⟨.hbm, 20, rfl⟩
abbrev main_v16 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := .none

@[reducible] def k0_t1_loop : Scf.Loop 32 :=
  let c1_i32 : BitVec 32 := 1#32
  let c511_i32 : BitVec 32 := 511#32
  let v30 : BitVec 32 := Scalar.addi c1_i32 c511_i32
  let c1_i32_13 : BitVec 32 := 1#32
  ⟨c1_i32, v30, c1_i32_13⟩
abbrev stage0_0 : Fin 1 → Memref sig .tc .vmem S16x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2048x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x3x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x2048x68 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x2048x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceIdeal.lean ====
abbrev S16x8192x3 : Shape := ⟨3, ![16, 8192, 3]⟩
abbrev S16x8192x64 : Shape := ⟨3, ![16, 8192, 64]⟩
abbrev S_ : Shape := ⟨0, ![]⟩
abbrev S16x512 : Shape := ⟨2, ![16, 512]⟩
abbrev S16x8192 : Shape := ⟨2, ![16, 8192]⟩
abbrev S16x1 : Shape := ⟨2, ![16, 1]⟩
abbrev S16x1x1 : Shape := ⟨3, ![16, 1, 1]⟩
abbrev S16x1x3 : Shape := ⟨3, ![16, 1, 3]⟩
abbrev S16x1x3x1 : Shape := ⟨4, ![16, 1, 3, 1]⟩
abbrev S16 : Shape := ⟨1, ![16]⟩
abbrev S16x512x1 : Shape := ⟨3, ![16, 512, 1]⟩
abbrev S16x512x3 : Shape := ⟨3, ![16, 512, 3]⟩
abbrev S16x512x3x1 : Shape := ⟨4, ![16, 512, 3, 1]⟩
abbrev S16x8192x1 : Shape := ⟨3, ![16, 8192, 1]⟩
abbrev S16x1x512 : Shape := ⟨3, ![16, 1, 512]⟩
abbrev S16x8192x512 : Shape := ⟨3, ![16, 8192, 512]⟩
abbrev S16x8192x3x1 : Shape := ⟨4, ![16, 8192, 3, 1]⟩
abbrev S16x8192x68 : Shape := ⟨3, ![16, 8192, 68]⟩

abbrev nBuf : Space → Nat
  | .hbm => 115
  | .vmem => 0
  | .smem => 0
  | _ => 0

abbrev bufTy : (tb : Table) → Fin (tcTables nBuf tb) → BufTy
  | .hbm, ⟨0, _⟩ => ⟨S16x8192x3, .f32⟩
  | .hbm, ⟨1, _⟩ => ⟨S16x8192x64, .f32⟩
  | .hbm, ⟨2, _⟩ => ⟨S_, .i32⟩
  | .hbm, ⟨3, _⟩ => ⟨S16x512, .i32⟩
  | .hbm, ⟨4, _⟩ => ⟨S_, .f32⟩
  | .hbm, ⟨5, _⟩ => ⟨S16x8192, .f32⟩
  | .hbm, ⟨6, _⟩ => ⟨S_, .i32⟩
  | .hbm, ⟨7, _⟩ => ⟨S_, .i32⟩
  | .hbm, ⟨8, _⟩ => ⟨S16x8192x3, .f32⟩
  | .hbm, ⟨9, _⟩ => ⟨S_, .i32⟩
  | .hbm, ⟨10, _⟩ => ⟨S_, .i32⟩
  | .hbm, ⟨11, _⟩ => ⟨S16x8192, .f32⟩
  | .hbm, ⟨12, _⟩ => ⟨S16x512, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S16x1, .i32⟩
  | .hbm, ⟨27, _⟩ => ⟨S16x1x1, .i32⟩
  | .hbm, ⟨28, _⟩ => ⟨S16x1x3, .i32⟩
  | .hbm, ⟨29, _⟩ => ⟨S_, .i32⟩
  | .hbm, ⟨30, _⟩ => ⟨S16x1x3, .i32⟩
  | .hbm, ⟨31, _⟩ => ⟨S16x1x3, .i1⟩
  | .hbm, ⟨32, _⟩ => ⟨S_, .i32⟩
  | .hbm, ⟨33, _⟩ => ⟨S16x1x3, .i32⟩
  | .hbm, ⟨34, _⟩ => ⟨S16x1x3, .i32⟩
  | .hbm, ⟨35, _⟩ => ⟨S16x1x3, .i32⟩
  | .hbm, ⟨36, _⟩ => ⟨S16x1x3x1, .i32⟩
  | .hbm, ⟨37, _⟩ => ⟨S16x1x3, .f32⟩
  | .hbm, ⟨38, _⟩ => ⟨S16x8192x3, .f32⟩
  | .hbm, ⟨39, _⟩ => ⟨S16x8192x3, .f32⟩
  | .hbm, ⟨40, _⟩ => ⟨S16x8192x3, .f32⟩
  | .hbm, ⟨41, _⟩ => ⟨S_, .f32⟩
  | .hbm, ⟨42, _⟩ => ⟨S16x8192, .f32⟩
  | .hbm, ⟨43, _⟩ => ⟨S16x8192, .f32⟩
  | .hbm, ⟨44, _⟩ => ⟨S16x8192, .i32⟩
  | .hbm, ⟨45, _⟩ => ⟨S_, .f32⟩
  | .hbm, ⟨46, _⟩ => ⟨S_, .i32⟩
  | .hbm, ⟨47, _⟩ => ⟨S16, .f32⟩
  | .hbm, ⟨48, _⟩ => ⟨S16, .i32⟩
  | .hbm, ⟨49, _⟩ => ⟨S16x1, .i32⟩
  | .hbm, ⟨50, _⟩ => ⟨S_, .i32⟩
  | .hbm, ⟨51, _⟩ => ⟨S_, .i1⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S16x512, .i32⟩
  | .hbm, ⟨58, _⟩ => ⟨S_, .i32⟩
  | .hbm, ⟨59, _⟩ => ⟨S_, .i32⟩
  | .hbm, ⟨60, _⟩ => ⟨S16x512x1, .i32⟩
  | .hbm, ⟨61, _⟩ => ⟨S16x512x3, .i32⟩
  | .hbm, ⟨62, _⟩ => ⟨S_, .i32⟩
  | .hbm, ⟨63, _⟩ => ⟨S16x512x3, .i32⟩
  | .hbm, ⟨64, _⟩ => ⟨S16x512x3, .i1⟩
  | .hbm, ⟨65, _⟩ => ⟨S_, .i32⟩
  | .hbm, ⟨66, _⟩ => ⟨S16x512x3, .i32⟩
  | .hbm, ⟨67, _⟩ => ⟨S16x512x3, .i32⟩
  | .hbm, ⟨68, _⟩ => ⟨S16x512x3, .i32⟩
  | .hbm, ⟨69, _⟩ => ⟨S16x512x3x1, .i32⟩
  | .hbm, ⟨70, _⟩ => ⟨S16x512x3, .f32⟩
  | .hbm, ⟨71, _⟩ => ⟨S16x8192x3, .f32⟩
  | .hbm, ⟨72, _⟩ => ⟨S_, .f32⟩
  | .hbm, ⟨73, _⟩ => ⟨S16x8192, .f32⟩
  | .hbm, ⟨74, _⟩ => ⟨S16x8192x1, .f32⟩
  | .hbm, ⟨75, _⟩ => ⟨S16x512x3, .f32⟩
  | .hbm, ⟨76, _⟩ => ⟨S_, .f32⟩
  | .hbm, ⟨77, _⟩ => ⟨S16x512, .f32⟩
  | .hbm, ⟨78, _⟩ => ⟨S16x1x512, .f32⟩
  | .hbm, ⟨79, _⟩ => ⟨S16x8192x512, .f32⟩
  | .hbm, ⟨80, _⟩ => ⟨S16x8192x512, .f32⟩
  | .hbm, ⟨81, _⟩ => ⟨S16x8192x512, .f32⟩
  | .hbm, ⟨82, _⟩ => ⟨S16x8192x512, .f32⟩
  | .hbm, ⟨83, _⟩ => ⟨S_, .f32⟩
  | .hbm, ⟨84, _⟩ => ⟨S16x8192x512, .f32⟩
  | .hbm, ⟨85, _⟩ => ⟨S16x8192x512, .f32⟩
  | .hbm, ⟨86, _⟩ => ⟨S16x8192x512, .f32⟩
  | .hbm, ⟨87, _⟩ => ⟨S16x8192x512, .i32⟩
  | .hbm, ⟨88, _⟩ => ⟨S_, .f32⟩
  | .hbm, ⟨89, _⟩ => ⟨S_, .i32⟩
  | .hbm, ⟨90, _⟩ => ⟨S16x8192, .f32⟩
  | .hbm, ⟨91, _⟩ => ⟨S16x8192, .i32⟩
  | .hbm, ⟨92, _⟩ => ⟨S16x8192x1, .i32⟩
  | .hbm, ⟨93, _⟩ => ⟨S16x8192x3, .i32⟩
  | .hbm, ⟨94, _⟩ => ⟨S_, .i32⟩
  | .hbm, ⟨95, _⟩ => ⟨S16x8192x3, .i32⟩
  | .hbm, ⟨96, _⟩ => ⟨S16x8192x3, .i1⟩
  | .hbm, ⟨97, _⟩ => ⟨S_, .i32⟩
  | .hbm, ⟨98, _⟩ => ⟨S16x8192x3, .i32⟩
  | .hbm, ⟨99, _⟩ => ⟨S16x8192x3, .i32⟩
  | .hbm, ⟨100, _⟩ => ⟨S16x8192x3, .i32⟩
  | .hbm, ⟨101, _⟩ => ⟨S16x8192x3x1, .i32⟩
  | .hbm, ⟨102, _⟩ => ⟨S16x8192x3, .f32⟩
  | .hbm, ⟨103, _⟩ => ⟨S16x8192x3, .f32⟩
  | .hbm, ⟨104, _⟩ => ⟨S16x8192x3, .f32⟩
  | .hbm, ⟨105, _⟩ => ⟨S_, .f32⟩
  | .hbm, ⟨106, _⟩ => ⟨S16x8192, .f32⟩
  | .hbm, ⟨107, _⟩ => ⟨S16x8192x1, .f32⟩
  | .hbm, ⟨108, _⟩ => ⟨S16x8192x1, .f32⟩
  | .hbm, ⟨109, _⟩ => ⟨S_, .f32⟩
  | .hbm, ⟨110, _⟩ => ⟨S16x8192x1, .f32⟩
  | .hbm, ⟨111, _⟩ => ⟨S16x8192x1, .f32⟩
  | .hbm, ⟨112, _⟩ => ⟨S16x8192x3, .f32⟩
  | .hbm, ⟨113, _⟩ => ⟨S16x8192x3, .f32⟩
  | .hbm, ⟨114, _⟩ => ⟨S16x8192x68, .f32⟩
  | _, _ => ⟨S16x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_c_0 : Ref sig .tc := ⟨.hbm, 6, rfl⟩
abbrev main_c_1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev main_while0c_c_10 : Ref sig .tc := ⟨.hbm, 13, rfl⟩
abbrev main_while0c_v30 : Ref sig .tc := ⟨.hbm, 14, rfl⟩
abbrev main_while0b_c_10 : Ref sig .tc := ⟨.hbm, 15, rfl⟩
abbrev main_while0b_v30 : Ref sig .tc := ⟨.hbm, 16, rfl⟩
abbrev main_while0b_c_11 : Ref sig .tc := ⟨.hbm, 17, rfl⟩
abbrev main_while0b_v31 : Ref sig .tc := ⟨.hbm, 18, rfl⟩
abbrev main_while0b_c_12 : Ref sig .tc := ⟨.hbm, 19, rfl⟩
abbrev main_while0b_v32 : Ref sig .tc := ⟨.hbm, 20, rfl⟩
abbrev main_while0b_v33 : Ref sig .tc := ⟨.hbm, 21, rfl⟩
abbrev main_while0b_c_13 : Ref sig .tc := ⟨.hbm, 22, rfl⟩
abbrev main_while0b_v34 : Ref sig .tc := ⟨.hbm, 23, rfl⟩
abbrev main_while0b_v35 : Ref sig .tc := ⟨.hbm, 24, rfl⟩
abbrev main_while0b_c_14 : Ref sig .tc := ⟨.hbm, 25, rfl⟩
abbrev main_while0b_v36 : Ref sig .tc := ⟨.hbm, 26, rfl⟩
abbrev main_while0b_v37 : Ref sig .tc := ⟨.hbm, 27, rfl⟩
abbrev main_while0b_v38 : Ref sig .tc := ⟨.hbm, 28, rfl⟩
abbrev main_while0b_call0_c : Ref sig .tc := ⟨.hbm, 29, rfl⟩
abbrev main_while0b_call0_v0 : Ref sig .tc := ⟨.hbm, 30, rfl⟩
abbrev main_while0b_call0_v1 : Ref sig .tc := ⟨.hbm, 31, rfl⟩
abbrev main_while0b_call0_c_0 : Ref sig .tc := ⟨.hbm, 32, rfl⟩
abbrev main_while0b_call0_v2 : Ref sig .tc := ⟨.hbm, 33, rfl⟩
abbrev main_while0b_call0_v3 : Ref sig .tc := ⟨.hbm, 34, rfl⟩
abbrev main_while0b_call0_v4 : Ref sig .tc := ⟨.hbm, 35, rfl⟩
abbrev main_while0b_call0_v5 : Ref sig .tc := ⟨.hbm, 36, rfl⟩
abbrev main_while0b_v39 : Ref sig .tc := ⟨.hbm, 37, rfl⟩
abbrev main_while0b_v40 : Ref sig .tc := ⟨.hbm, 38, rfl⟩
abbrev main_while0b_v41 : Ref sig .tc := ⟨.hbm, 39, rfl⟩
abbrev main_while0b_v42 : Ref sig .tc := ⟨.hbm, 40, rfl⟩
abbrev main_while0b_cst_15 : Ref sig .tc := ⟨.hbm, 41, rfl⟩
abbrev main_while0b_v43 : Ref sig .tc := ⟨.hbm, 42, rfl⟩
abbrev main_while0b_v44 : Ref sig .tc := ⟨.hbm, 43, rfl⟩
abbrev main_while0b_call1_v0 : Ref sig .tc := ⟨.hbm, 44, rfl⟩
abbrev main_while0b_call1_cst : Ref sig .tc := ⟨.hbm, 45, rfl⟩
abbrev main_while0b_call1_c : Ref sig .tc := ⟨.hbm, 46, rfl⟩
abbrev main_while0b_call1_v1_0 : Ref sig .tc := ⟨.hbm, 47, rfl⟩
abbrev main_while0b_v45 : Ref sig .tc := ⟨.hbm, 48, rfl⟩
abbrev main_while0b_v46 : Ref sig .tc := ⟨.hbm, 49, rfl⟩
abbrev main_while0b_c_16 : Ref sig .tc := ⟨.hbm, 50, rfl⟩
abbrev main_while0b_v47 : Ref sig .tc := ⟨.hbm, 51, rfl⟩
abbrev main_while0b_v48 : Ref sig .tc := ⟨.hbm, 52, rfl⟩
abbrev main_while0b_c_17 : Ref sig .tc := ⟨.hbm, 53, rfl⟩
abbrev main_while0b_v49 : Ref sig .tc := ⟨.hbm, 54, rfl⟩
abbrev main_while0b_v50 : Ref sig .tc := ⟨.hbm, 55, rfl⟩
abbrev main_while0b_c_18 : Ref sig .tc := ⟨.hbm, 56, rfl⟩
abbrev main_while0b_v51 : Ref sig .tc := ⟨.hbm, 57, rfl⟩
abbrev main_while0b_c_19 : Ref sig .tc := ⟨.hbm, 58, rfl⟩
abbrev main_while0b_v52 : Ref sig .tc := ⟨.hbm, 59, rfl⟩
abbrev main_v3 : Ref sig .tc := ⟨.hbm, 60, rfl⟩
abbrev main_v4 : Ref sig .tc := ⟨.hbm, 61, rfl⟩
abbrev main_call2_c : Ref sig .tc := ⟨.hbm, 62, rfl⟩
abbrev main_call2_v0 : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_v5 : Ref sig .tc := ⟨.hbm, 70, rfl⟩
abbrev main_v6 : Ref sig .tc := ⟨.hbm, 71, rfl⟩
abbrev main_cst_2 : Ref sig .tc := ⟨.hbm, 72, rfl⟩
abbrev main_v7 : Ref sig .tc := ⟨.hbm, 73, rfl⟩
abbrev main_v8 : Ref sig .tc := ⟨.hbm, 74, rfl⟩
abbrev main_v9 : Ref sig .tc := ⟨.hbm, 75, rfl⟩
abbrev main_cst_3 : Ref sig .tc := ⟨.hbm, 76, rfl⟩
abbrev main_v10 : Ref sig .tc := ⟨.hbm, 77, rfl⟩
abbrev main_v11 : Ref sig .tc := ⟨.hbm, 78, rfl⟩
abbrev main_v12 : Ref sig .tc := ⟨.hbm, 79, rfl⟩
abbrev main_v13 : Ref sig .tc := ⟨.hbm, 80, rfl⟩
abbrev main_v14 : Ref sig .tc := ⟨.hbm, 81, rfl⟩
abbrev main_v15 : Ref sig .tc := ⟨.hbm, 82, rfl⟩
abbrev main_cst_4 : Ref sig .tc := ⟨.hbm, 83, rfl⟩
abbrev main_v16 : Ref sig .tc := ⟨.hbm, 84, rfl⟩
abbrev main_v17 : Ref sig .tc := ⟨.hbm, 85, rfl⟩
abbrev main_v18 : Ref sig .tc := ⟨.hbm, 86, rfl⟩
abbrev main_call3_v0 : Ref sig .tc := ⟨.hbm, 87, rfl⟩
abbrev main_call3_cst : Ref sig .tc := ⟨.hbm, 88, rfl⟩
abbrev main_call3_c : Ref sig .tc := ⟨.hbm, 89, rfl⟩
abbrev main_call3_v1_0 : Ref sig .tc := ⟨.hbm, 90, rfl⟩
abbrev main_v19 : Ref sig .tc := ⟨.hbm, 91, rfl⟩
abbrev main_v20 : Ref sig .tc := ⟨.hbm, 92, rfl⟩
abbrev main_v21 : Ref sig .tc := ⟨.hbm, 93, rfl⟩
abbrev main_call4_c : Ref sig .tc := ⟨.hbm, 94, rfl⟩
abbrev main_call4_v0 : Ref sig .tc := ⟨.hbm, 95, rfl⟩
abbrev main_call4_v1 : Ref sig .tc := ⟨.hbm, 96, rfl⟩
abbrev main_call4_c_0 : Ref sig .tc := ⟨.hbm, 97, rfl⟩
abbrev main_call4_v2 : Ref sig .tc := ⟨.hbm, 98, rfl⟩
abbrev main_call4_v3 : Ref sig .tc := ⟨.hbm, 99, rfl⟩
abbrev main_call4_v4 : Ref sig .tc := ⟨.hbm, 100, rfl⟩
abbrev main_call4_v5 : Ref sig .tc := ⟨.hbm, 101, rfl⟩
abbrev main_v22 : Ref sig .tc := ⟨.hbm, 102, rfl⟩
abbrev main_v23 : Ref sig .tc := ⟨.hbm, 103, rfl⟩
abbrev main_call5_v0 : Ref sig .tc := ⟨.hbm, 104, rfl⟩
abbrev main_call5_cst : Ref sig .tc := ⟨.hbm, 105, rfl⟩
abbrev main_call5_v1 : Ref sig .tc := ⟨.hbm, 106, rfl⟩
abbrev main_call5_v2 : Ref sig .tc := ⟨.hbm, 107, rfl⟩
abbrev main_v24 : Ref sig .tc := ⟨.hbm, 108, rfl⟩
abbrev main_cst_5 : Ref sig .tc := ⟨.hbm, 109, rfl⟩
abbrev main_v25 : Ref sig .tc := ⟨.hbm, 110, rfl⟩
abbrev main_v26 : Ref sig .tc := ⟨.hbm, 111, rfl⟩
abbrev main_v27 : Ref sig .tc := ⟨.hbm, 112, rfl⟩
abbrev main_v28 : Ref sig .tc := ⟨.hbm, 113, rfl⟩
abbrev main_v29 : Ref sig .tc := ⟨.hbm, 114, rfl⟩

abbrev nD : Nat := 1
abbrev τ : Topo := Topo.v7x

variable {F : FTy → Type} [FloatOps F]

abbrev main_while0_count : Scf.Loop 32 := ⟨0#32, 511#32, 1#32⟩
-- ==== Proof.LoopIdeal.lean ====
/-
  The sampling loop of the first region of `KernelIdeal`: one trip run once at a symbolic trip, and the state before
  trip `k` as the recursion of what the trips yield and store.
-/
module

public import proofs.«01_k».proof.Proof.Gen.KernelIdeal.Skeleton
public import Idealize.ShloMosaic.Lib.Exec
public import Idealize.ShloMosaic.Lib.Tactic
public import Idealize.ShloMosaic.Lib.Pipeline.Kit
public import proofs.«01_k».proof.Proof.Gen.KernelIdeal.Loops

@[expose] public section

set_option maxRecDepth 65536
set_option maxHeartbeats 4000000

noncomputable section

namespace Cert.KernelIdeal.Sampling

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- What the loop carries: the last chosen point's three coordinates and the three tables of chosen coordinates. -/
abbrev Carry (F : FTy → Type) := FVec F S16x1 .f32 × FVec F S16x1 .f32 × FVec F S16x1 .f32 × FVec F S16x512 .f32 × FVec F S16x512 .f32 × FVec F S16x512 .f32

/-- The resource algebra of the run. -/
local notation "𝕄" => MT nD τ sig Unit (Elt F) ℕ (UR sig nD τ) ℕ

variable (𝒱 : Variants) (c : Dev nD) (bd : Option 𝒱.V) (arg0 : Memref sig .tc .vmem S16x8192 .f32) (harg0 : arg0.IsWhole) (arg1 : Memref sig .tc .vmem S16x8192 .f32) (harg1 : arg1.IsWhole) (arg2 : Memref sig .tc .vmem S16x8192 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S16x512 .f32) (harg5 : arg5.IsWhole) (arg6 : Memref sig .tc .vmem S16x8192 .f32) (harg6 : arg6.IsWhole) (v5 : IVec S16x128 32) (cst_12 : F .f32) (X0 : BufTy.Contents (Elt F) arg0.view.ty) (X1 : BufTy.Contents (Elt F) arg1.view.ty) (X2 : BufTy.Contents (Elt F) arg2.view.ty)

/-- What a trip holds: the three coordinate arrays at their contents, the running distances at `f`. -/
abbrev Held (f : BufTy.Contents (Elt F) arg6.view.ty) : sProp 𝕄 :=
  iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg6.view.loc (c : Thread nD τ) ↦[arg6.view.set]{fullShare} f))

/-- One trip from any carried value and any running distances: what it yields, and the pieces it stores. -/
@[irreducible] def trip (k : Fin k0_t1_loop.trips) :
    Σ' (R : Carry F → BufTy.Contents (Elt F) arg6.view.ty → Carry F),
      { L : Carry F → BufTy.Contents (Elt F) arg6.view.ty → List (View.Piece (Elt F) S16x8192 .f32) //
        ∀ (E : Set ℕ) (acc : Carry F) (f : BufTy.Contents (Elt F) arg6.view.ty),
          Held c arg0 arg1 arg2 arg6 X0 X1 X2 f
          ⊢ wp frame (wpE (defs₀ (F := F)) 𝒱 (c : Thread nD τ) bd) E (k0_t1_body (F := F) arg0 harg0 arg1 harg1 arg2 harg2 arg3 harg3 arg4 harg4 arg5 harg5 arg6 harg6 v5 cst_12 k acc)
              (fun y => iprop(⌜y = R acc f⌝ ∗ Held c arg0 arg1 arg2 arg6 X0 X1 X2 (arg6.view.writes (Elt F) f (L acc f)))) } := by
  have hk : k.val < 511 := Nat.lt_of_lt_of_le k.isLt k0_t1_abs.2.1
  refine ⟨?_, ?_, fun E acc f => ?run⟩
  case run =>
    unfold k0_t1_body
    iintro ⟨H0, H1, H2, H6⟩
    sl_exec
    sl_step
    sl_close

/-- A trip's step on the carried value and the pieces stored into the running distances so far, last first. -/
@[irreducible] def step (G : BufTy.Contents (Elt F) arg6.view.ty) (k : ℕ) (s : Carry F × List (View.Piece (Elt F) S16x8192 .f32)) :
    Carry F × List (View.Piece (Elt F) S16x8192 .f32) :=
  if h : k < k0_t1_loop.trips then
    ((trip 𝒱 c bd arg0 harg0 arg1 harg1 arg2 harg2 arg3 harg3 arg4 harg4 arg5 harg5 arg6 harg6 v5 cst_12 X0 X1 X2 ⟨k, h⟩).1 s.1 (arg6.view.writes (Elt F) G s.2),
      (trip 𝒱 c bd arg0 harg0 arg1 harg1 arg2 harg2 arg3 harg3 arg4 harg4 arg5 harg5 arg6 harg6 v5 cst_12 X0 X1 X2 ⟨k, h⟩).2.1 s.1 (arg6.view.writes (Elt F) G s.2) ++ s.2)
  else s

/-- The carried value and the pieces stored before trip `k`. -/
def state (G : BufTy.Contents (Elt F) arg6.view.ty) (init : Carry F) : ℕ → Carry F × List (View.Piece (Elt F) S16x8192 .f32)
  | 0 => (init, [])
  | k + 1 => step 𝒱 c bd arg0 harg0 arg1 harg1 arg2 harg2 arg3 harg3 arg4 harg4 arg5 harg5 arg6 harg6 v5 cst_12 X0 X1 X2 G k (state G init k)

/-- The state after trip `k`, by the trip's own yield and pieces. -/
theorem state_succ (G : BufTy.Contents (Elt F) arg6.view.ty) (init : Carry F) (k : Fin k0_t1_loop.trips) :
    state 𝒱 c bd arg0 harg0 arg1 harg1 arg2 harg2 arg3 harg3 arg4 harg4 arg5 harg5 arg6 harg6 v5 cst_12 X0 X1 X2 G init (k.val + 1)
      = ((trip 𝒱 c bd arg0 harg0 arg1 harg1 arg2 harg2 arg3 harg3 arg4 harg4 arg5 harg5 arg6 harg6 v5 cst_12 X0 X1 X2 k).1 (state 𝒱 c bd arg0 harg0 arg1 harg1 arg2 harg2 arg3 harg3 arg4 harg4 arg5 harg5 arg6 harg6 v5 cst_12 X0 X1 X2 G init k.val).1
          (arg6.view.writes (Elt F) G (state 𝒱 c bd arg0 harg0 arg1 harg1 arg2 harg2 arg3 harg3 arg4 harg4 arg5 harg5 arg6 harg6 v5 cst_12 X0 X1 X2 G init k.val).2),
        (trip 𝒱 c bd arg0 harg0 arg1 harg1 arg2 harg2 arg3 harg3 arg4 harg4 arg5 harg5 arg6 harg6 v5 cst_12 X0 X1 X2 k).2.1 (state 𝒱 c bd arg0 harg0 arg1 harg1 arg2 harg2 arg3 harg3 arg4 harg4 arg5 harg5 arg6 harg6 v5 cst_12 X0 X1 X2 G init k.val).1
          (arg6.view.writes (Elt F) G (state 𝒱 c bd arg0 harg0 arg1 harg1 arg2 harg2 arg3 harg3 arg4 harg4 arg5 harg5 arg6 harg6 v5 cst_12 X0 X1 X2 G init k.val).2)
          ++ (state 𝒱 c bd arg0 harg0 arg1 harg1 arg2 harg2 arg3 harg3 arg4 harg4 arg5 harg5 arg6 harg6 v5 cst_12 X0 X1 X2 G init k.val).2) := by
  rw [state.eq_2]; unfold step; exact dif_pos k.isLt

set_option warn.classDefReducibility false in
/-- The loop by its invariant: the inputs unchanged, the running distances and the carried value those of `state`. -/
@[sl_loop] def loopInv (E : Set ℕ) (G : BufTy.Contents (Elt F) arg6.view.ty) (init : Carry F) :
    Gen.LoopInvTy_k0_t1 (F := F) Unit ℕ (UR sig nD τ) ℕ 𝒱 c bd E arg0 harg0 arg1 harg1 arg2 harg2 arg3 harg3 arg4 harg4 arg5 harg5 arg6 harg6 v5 cst_12 init where
  inv k acc := iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (∃ f, (arg6.view.loc (c : Thread nD τ) ↦[arg6.view.set]{fullShare} f) ∗ ⌜f = arg6.view.writes (Elt F) G (state 𝒱 c bd arg0 harg0 arg1 harg1 arg2 harg2 arg3 harg3 arg4 harg4 arg5 harg5 arg6 harg6 v5 cst_12 X0 X1 X2 G init k).2⌝) ∗ ⌜acc = (state 𝒱 c bd arg0 harg0 arg1 harg1 arg2 harg2 arg3 harg3 arg4 harg4 arg5 harg5 arg6 harg6 v5 cst_12 X0 X1 X2 G init k).1⌝)
  step k acc := by
    iintro ⟨H0, H1, H2, ⟨%f, H6, %hf⟩, %hacc⟩
    subst hacc
    subst hf
    iapply (wp_wand_r Idealize.ShloMosaic.frame (wpE (defs₀ (F := F)) 𝒱 (c : Thread nD τ) bd) E)
    isplitl [H0 H1 H2 H6]
    · iapply ((trip 𝒱 c bd arg0 harg0 arg1 harg1 arg2 harg2 arg3 harg3 arg4 harg4 arg5 harg5 arg6 harg6 v5 cst_12 X0 X1 X2 k).2.2 E (state 𝒱 c bd arg0 harg0 arg1 harg1 arg2 harg2 arg3 harg3 arg4 harg4 arg5 harg5 arg6 harg6 v5 cst_12 X0 X1 X2 G init k.val).1 (arg6.view.writes (Elt F) G (state 𝒱 c bd arg0 harg0 arg1 harg1 arg2 harg2 arg3 harg3 arg4 harg4 arg5 harg5 arg6 harg6 v5 cst_12 X0 X1 X2 G init k.val).2))
      isplitl [H0]; · iexact H0
      isplitl [H1]; · iexact H1
      isplitl [H2]; · iexact H2
      iexact H6
    · iintro %y ⟨%hy, H0, H1, H2, H6⟩
      isplitl [H0]; · iexact H0
      isplitl [H1]; · iexact H1
      isplitl [H2]; · iexact H2
      simp only [state_succ]
      isplitl [H6]
      · iexists _; isplitl [H6]; · iexact H6
        ipureintro; rw [← View.writes_append]
      ipureintro; exact hy

end Cert.KernelIdeal.Sampling
-- ==== Proof.FrameIdeal.lean ====
/-
  The run of `KernelIdeal` through its two regions, over the sampling loop's own invariant: what each region's output blocks
  hold after the body, the buffers at every segment boundary, and the frame.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import proofs.«01_k».proof.Proof.LoopIdeal
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of full extents (`View.cover_of_tiled`) is unfolded once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__fps_body` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 3, through which its contents are stated (`View.read_writes_of_cover`: the
    choice does not matter). -/
abbrev VO0_3 : View sig .tc .vmem S16x512 .f32 := (Memref.whole cc0_stg3_0 : Memref sig .tc .vmem S16x512 .f32).view
/-- One staging buffer of output window 4, through which its contents are stated (`View.read_writes_of_cover`: the
    choice does not matter). -/
abbrev VO0_4 : View sig .tc .vmem S16x512 .f32 := (Memref.whole cc0_stg4_0 : Memref sig .tc .vmem S16x512 .f32).view
/-- One staging buffer of output window 5, through which its contents are stated (`View.read_writes_of_cover`: the
    choice does not matter). -/
abbrev VO0_5 : View sig .tc .vmem S16x512 .f32 := (Memref.whole cc0_stg5_0 : Memref sig .tc .vmem S16x512 .f32).view
/-- Each window's current staging memref at point `t`, spelled as the pipeline passes it (`bodyAt0`), and its wholeness. -/
abbrev ms0_0 (t : Fin cfg0.N) : Memref sig .tc .vmem S16x8192 .f32 := win0_0.stage (cfg0.slots t 0)
abbrev hs0_0 (t : Fin cfg0.N) : (ms0_0 t).IsWhole := hstage0_0 0
abbrev ms0_1 (t : Fin cfg0.N) : Memref sig .tc .vmem S16x8192 .f32 := win0_1.stage (cfg0.slots t 1)
abbrev hs0_1 (t : Fin cfg0.N) : (ms0_1 t).IsWhole := hstage0_1 0
abbrev ms0_2 (t : Fin cfg0.N) : Memref sig .tc .vmem S16x8192 .f32 := win0_2.stage (cfg0.slots t 2)
abbrev hs0_2 (t : Fin cfg0.N) : (ms0_2 t).IsWhole := hstage0_2 0
abbrev ms0_3 (t : Fin cfg0.N) : Memref sig .tc .vmem S16x512 .f32 := win0_3.stage (cfg0.slots t 3)
abbrev hs0_3 (t : Fin cfg0.N) : (ms0_3 t).IsWhole := hstage0_3 0
abbrev ms0_4 (t : Fin cfg0.N) : Memref sig .tc .vmem S16x512 .f32 := win0_4.stage (cfg0.slots t 4)
abbrev hs0_4 (t : Fin cfg0.N) : (ms0_4 t).IsWhole := hstage0_4 0
abbrev ms0_5 (t : Fin cfg0.N) : Memref sig .tc .vmem S16x512 .f32 := win0_5.stage (cfg0.slots t 5)
abbrev hs0_5 (t : Fin cfg0.N) : (ms0_5 t).IsWhole := hstage0_5 0
/-- The scratch operands: whole scoped buffers of the kernel's own, passed beside the windows. -/
abbrev scM0_0 : Memref sig .tc .vmem S16x8192 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f)) ∗ (∃ r, prngReg c r)) := by
  unfold Pipeline.ΦA; rw [scopedRest0_eq]; simp only [scM0_0, owns_whole]; try rfl

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (arg0 : Memref sig .tc .vmem S16x8192 .f32) (harg0 : arg0.IsWhole) (arg1 : Memref sig .tc .vmem S16x8192 .f32) (harg1 : arg1.IsWhole) (arg2 : Memref sig .tc .vmem S16x8192 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S16x512 .f32) (harg5 : arg5.IsWhole) (arg6 : Memref sig .tc .vmem S16x8192 .f32) (harg6 : arg6.IsWhole)
    (x0 : Vec F S16x8192 .f32) (x1 : Vec F S16x8192 .f32) (x2 : Vec F S16x8192 .f32) :
    Σ' (L3 : List (View.Piece (Elt F) S16x512 .f32)), Σ' (L4 : List (View.Piece (Elt F) S16x512 .f32)), { L5 : List (View.Piece (Elt F) S16x512 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg0 fullShare x0 ∗ owns (c : Thread nD τ) arg1 fullShare x1 ∗ owns (c : Thread nD τ) arg2 fullShare x2 ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ d, owns (c : Thread nD τ) arg6 fullShare d)) -∗ K ⟨⟩))
          ⊢ wp frame (wpE (defs₀ (F := F)) Variants.none c none) E (cc0__fps_body arg0 harg0 arg1 harg1 arg2 harg2 arg3 harg3 arg4 harg4 arg5 harg5 arg6 harg6) K } := by
  refine ⟨?_, ?_, ?_, fun E K => ?run⟩
  case run =>
    simp only [cc0__fps_body_eq_skeleton]; unfold cc0__fps_body_skel
    simp only [k0_part69_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, Hk⟩
    obtain rfl := harg0.eq_unread hf0; obtain rfl := harg1.eq_unread hf1; obtain rfl := harg2.eq_unread hf2
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]; · iexists _; iexact H3
    isplitl [H4]; · iexists _; iexact H4
    isplitl [H5]; · iexists _; iexact H5
    iexists _, _; isplitr; swap; · iexact HS0
    ipureintro; rfl

/-- The run's pieces for output 3 tile its block (1 store of `S16x512`, checked by the kernel's evaluation: Lib/Ring.lean `Piece.tiledL`, linear in the pieces, through a loop's `@[irreducible]` trip theorem too), so they cover it. -/
theorem cover0_A_3 (c : Dev nD) (arg0 : Memref sig .tc .vmem S16x8192 .f32) (harg0 : arg0.IsWhole) (arg1 : Memref sig .tc .vmem S16x8192 .f32) (harg1 : arg1.IsWhole) (arg2 : Memref sig .tc .vmem S16x8192 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S16x512 .f32) (harg5 : arg5.IsWhole) (arg6 : Memref sig .tc .vmem S16x8192 .f32) (harg6 : arg6.IsWhole)
    (x0 : Vec F S16x8192 .f32) (x1 : Vec F S16x8192 .f32) (x2 : Vec F S16x8192 .f32) (y : S16x512.Idx) :
    ∃ pc ∈ (kernelRun0_A c arg0 harg0 arg1 harg1 arg2 harg2 arg3 harg3 arg4 harg4 arg5 harg5 arg6 harg6 x0 x1 x2).1, y ∈ pc.1.set :=
  View.cover_of_tiledL (kernelRun0_A c arg0 harg0 arg1 harg1 arg2 harg2 arg3 harg3 arg4 harg4 arg5 harg5 arg6 harg6 x0 x1 x2).1 S16x512.size (by sl_kernel_rfl) y

/-- What the run leaves in output 3's staging buffer: its pieces read back over junk. -/
def out0_A_3 (c : Dev nD) (arg0 : Memref sig .tc .vmem S16x8192 .f32) (harg0 : arg0.IsWhole) (arg1 : Memref sig .tc .vmem S16x8192 .f32) (harg1 : arg1.IsWhole) (arg2 : Memref sig .tc .vmem S16x8192 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S16x512 .f32) (harg5 : arg5.IsWhole) (arg6 : Memref sig .tc .vmem S16x8192 .f32) (harg6 : arg6.IsWhole)
    (x0 : Vec F S16x8192 .f32) (x1 : Vec F S16x8192 .f32) (x2 : Vec F S16x8192 .f32) : Vec F S16x512 .f32 :=
  VO0_3.read (Elt F) (VO0_3.writes (Elt F) VO0_3.junk (kernelRun0_A c arg0 harg0 arg1 harg1 arg2 harg2 arg3 harg3 arg4 harg4 arg5 harg5 arg6 harg6 x0 x1 x2).1)

/-- The run's pieces for output 4 tile its block (1 store of `S16x512`, checked by the kernel's evaluation: Lib/Ring.lean `Piece.tiledL`, linear in the pieces, through a loop's `@[irreducible]` trip theorem too), so they cover it. -/
theorem cover0_A_4 (c : Dev nD) (arg0 : Memref sig .tc .vmem S16x8192 .f32) (harg0 : arg0.IsWhole) (arg1 : Memref sig .tc .vmem S16x8192 .f32) (harg1 : arg1.IsWhole) (arg2 : Memref sig .tc .vmem S16x8192 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S16x512 .f32) (harg5 : arg5.IsWhole) (arg6 : Memref sig .tc .vmem S16x8192 .f32) (harg6 : arg6.IsWhole)
    (x0 : Vec F S16x8192 .f32) (x1 : Vec F S16x8192 .f32) (x2 : Vec F S16x8192 .f32) (y : S16x512.Idx) :
    ∃ pc ∈ (kernelRun0_A c arg0 harg0 arg1 harg1 arg2 harg2 arg3 harg3 arg4 harg4 arg5 harg5 arg6 harg6 x0 x1 x2).2.1, y ∈ pc.1.set :=
  View.cover_of_tiledL (kernelRun0_A c arg0 harg0 arg1 harg1 arg2 harg2 arg3 harg3 arg4 harg4 arg5 harg5 arg6 harg6 x0 x1 x2).2.1 S16x512.size (by sl_kernel_rfl) y

/-- What the run leaves in output 4's staging buffer: its pieces read back over junk. -/
def out0_A_4 (c : Dev nD) (arg0 : Memref sig .tc .vmem S16x8192 .f32) (harg0 : arg0.IsWhole) (arg1 : Memref sig .tc .vmem S16x8192 .f32) (harg1 : arg1.IsWhole) (arg2 : Memref sig .tc .vmem S16x8192 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S16x512 .f32) (harg5 : arg5.IsWhole) (arg6 : Memref sig .tc .vmem S16x8192 .f32) (harg6 : arg6.IsWhole)
    (x0 : Vec F S16x8192 .f32) (x1 : Vec F S16x8192 .f32) (x2 : Vec F S16x8192 .f32) : Vec F S16x512 .f32 :=
  VO0_4.read (Elt F) (VO0_4.writes (Elt F) VO0_4.junk (kernelRun0_A c arg0 harg0 arg1 harg1 arg2 harg2 arg3 harg3 arg4 harg4 arg5 harg5 arg6 harg6 x0 x1 x2).2.1)

/-- The run's pieces for output 5 tile its block (1 store of `S16x512`, checked by the kernel's evaluation: Lib/Ring.lean `Piece.tiledL`, linear in the pieces, through a loop's `@[irreducible]` trip theorem too), so they cover it. -/
theorem cover0_A_5 (c : Dev nD) (arg0 : Memref sig .tc .vmem S16x8192 .f32) (harg0 : arg0.IsWhole) (arg1 : Memref sig .tc .vmem S16x8192 .f32) (harg1 : arg1.IsWhole) (arg2 : Memref sig .tc .vmem S16x8192 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S16x512 .f32) (harg5 : arg5.IsWhole) (arg6 : Memref sig .tc .vmem S16x8192 .f32) (harg6 : arg6.IsWhole)
    (x0 : Vec F S16x8192 .f32) (x1 : Vec F S16x8192 .f32) (x2 : Vec F S16x8192 .f32) (y : S16x512.Idx) :
    ∃ pc ∈ (kernelRun0_A c arg0 harg0 arg1 harg1 arg2 harg2 arg3 harg3 arg4 harg4 arg5 harg5 arg6 harg6 x0 x1 x2).2.2.1, y ∈ pc.1.set :=
  View.cover_of_tiledL (kernelRun0_A c arg0 harg0 arg1 harg1 arg2 harg2 arg3 harg3 arg4 harg4 arg5 harg5 arg6 harg6 x0 x1 x2).2.2.1 S16x512.size (by sl_kernel_rfl) y

/-- What the run leaves in output 5's staging buffer: its pieces read back over junk. -/
def out0_A_5 (c : Dev nD) (arg0 : Memref sig .tc .vmem S16x8192 .f32) (harg0 : arg0.IsWhole) (arg1 : Memref sig .tc .vmem S16x8192 .f32) (harg1 : arg1.IsWhole) (arg2 : Memref sig .tc .vmem S16x8192 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S16x512 .f32) (harg5 : arg5.IsWhole) (arg6 : Memref sig .tc .vmem S16x8192 .f32) (harg6 : arg6.IsWhole)
    (x0 : Vec F S16x8192 .f32) (x1 : Vec F S16x8192 .f32) (x2 : Vec F S16x8192 .f32) : Vec F S16x512 .f32 :=
  VO0_5.read (Elt F) (VO0_5.writes (Elt F) VO0_5.junk (kernelRun0_A c arg0 harg0 arg1 harg1 arg2 harg2 arg3 harg3 arg4 harg4 arg5 harg5 arg6 harg6 x0 x1 x2).2.2.1)

/-! ## What the outputs hold after each point -/

/-- What the outputs' staging buffers hold after the body at point `t` (as a tuple, in window order): the run's contents at
    the point's memrefs and input blocks. -/
def outsAt0 (c : Dev nD) (t : Fin cfg0.N) : Vec F S16x512 .f32 × Vec F S16x512 .f32 × Vec F S16x512 .f32 :=
  (out0_A_3 c (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk0 V c 0 t) (iblk0 V c 1 t) (iblk0 V c 2 t), out0_A_4 c (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk0 V c 0 t) (iblk0 V c 1 t) (iblk0 V c 2 t), out0_A_5 c (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk0 V c 0 t) (iblk0 V c 1 t) (iblk0 V c 2 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t).1
    | ⟨4, _⟩ => (outsAt0 V c t).2.1
    | ⟨5, _⟩ => (outsAt0 V c t).2.2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t).1 := by dsimp only [dat0]
theorem after0_4 (c : Dev nD) (t : Fin cfg0.N) : (dat0 V c).after 4 t = (outsAt0 V c t).2.1 := by dsimp only [dat0]
theorem after0_5 (c : Dev nD) (t : Fin cfg0.N) : (dat0 V c).after 5 t = (outsAt0 V c t).2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

/-- The body at any point: the inputs' memrefs hold their blocks (`before0_W`); so the
    run applies; the invariant hands the body its scratch buffers at some contents (and the generator register) and takes them back at some contents (`PhiA_eq`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  rw [show (dat0 V c).Φ t.castSucc = Pipeline.ΦA spec0 c from rfl, PhiA0_eq]
  unfold outsAt0
  unfold out0_A_3 out0_A_4 out0_A_5; (try dsimp only)
  iintro ⟨⟨⟨HS0, HR1, HR2, HR3, HR4, HR5, HR6, HR7, HR8, HR9, HR10⟩, Hg⟩, Ho, ⟨%d0, H0⟩, ⟨%d1, H1⟩, ⟨%d2, H2⟩, ⟨%d3, H3⟩, ⟨%d4, H4⟩, ⟨%d5, H5⟩⟩
  iapply ((kernelRun0_A c _ _ _ _ _ _ _ _ _ _ _ _ _ _ (iblk0 V c 0 t) (iblk0 V c 1 t) (iblk0 V c 2 t)).2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexact HS0
  iintro ⟨H0, H1, H2, ⟨%e3, H3⟩, ⟨%e4, H4⟩, ⟨%e5, H5⟩, HS0⟩
  isplitl [HS0 HR1 HR2 HR3 HR4 HR5 HR6 HR7 HR8 HR9 HR10 Hg]
  · isplitl [HS0 HR1 HR2 HR3 HR4 HR5 HR6 HR7 HR8 HR9 HR10]
    · isplitl [HS0]
      · iexact HS0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      iexact HR10
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_A_3 c _ _ _ _ _ _ _ _ _ _ _ _ _ _ _ _ _)
  isplitl [H4]
  · unfold owns; iexists _; isplitr
    swap; · iexact H4
    ipureintro; exact View.read_writes_of_cover _ _ _ _ _ (cover0_A_4 c _ _ _ _ _ _ _ _ _ _ _ _ _ _ _ _ _)
  unfold owns; iexists _; isplitr
  swap; · iexact H5
  ipureintro; exact View.read_writes_of_cover _ _ _ _ _ (cover0_A_5 c _ _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1__group_body` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 3, through which its contents are stated (`View.read_writes_of_cover`: the
    choice does not matter). -/
abbrev VO1_3 : View sig .tc .vmem S1x2048x68 .f32 := (Memref.whole cc1_stg3_0 : Memref sig .tc .vmem S1x2048x68 .f32).view
/-- One staging buffer of output window 4, through which its contents are stated (`View.read_writes_of_cover`: the
    choice does not matter). -/
abbrev VO1_4 : View sig .tc .vmem S1x2048x1 .i32 := (Memref.whole cc1_stg4_0 : Memref sig .tc .vmem S1x2048x1 .i32).view
/-- Each window's current staging memref at point `t`, spelled as the pipeline passes it (`bodyAt1`), and its wholeness. -/
abbrev ms1_0 (t : Fin cfg1.N) : Memref sig .tc .vmem S1x2048x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x3x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2048x68 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x2048x1 .i32 := win1_4.stage (cfg1.slots t 4)
abbrev hs1_4 (t : Fin cfg1.N) : (ms1_4 t).IsWhole := hstage1_4 ((cfg1.slots t 4).cast nbuf1_4)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg2 : Memref sig .tc .vmem S1x2048x3 .f32) (harg2 : arg2.IsWhole) (arg3 : Memref sig .tc .vmem S1x2048x64 .f32) (harg3 : arg3.IsWhole) (arg4 : Memref sig .tc .vmem S1x3x512 .f32) (harg4 : arg4.IsWhole) (arg5 : Memref sig .tc .vmem S1x2048x68 .f32) (harg5 : arg5.IsWhole) (arg6 : Memref sig .tc .vmem S1x2048x1 .i32) (harg6 : arg6.IsWhole)
    (x0 : Vec F S1x2048x3 .f32) (x1 : Vec F S1x2048x64 .f32) (x2 : Vec F S1x3x512 .f32) :
    Σ' (L3 : List (View.Piece (Elt F) S1x2048x68 .f32)), { L4 : List (View.Piece (Elt F) S1x2048x1 .i32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc1__group_body i arg2 harg2 arg3 harg3 arg4 harg4 arg5 harg5 arg6 harg6) K } := by
  refine ⟨?_, ?_, fun E K => ?run⟩
  case run =>
    simp only [cc1__group_body_eq_skeleton]; unfold cc1__group_body_skel
    simp only [k1_part1_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

/-- The run's pieces for output 3 are of SEVERAL sizes (3 stores of `S1x2048x1`, `S1x2048x3`, `S1x2048x64`): cut into blocks of `![1, 2048, 1]` they tile its block (checked by the kernel's evaluation: Lib/Ring.lean `Piece.tiledBy`), so they cover it. -/
theorem cover1_A_3 (c : Dev nD) (i : grid1.Coords) (arg2 : Memref sig .tc .vmem S1x2048x3 .f32) (harg2 : arg2.IsWhole) (arg3 : Memref sig .tc .vmem S1x2048x64 .f32) (harg3 : arg3.IsWhole) (arg4 : Memref sig .tc .vmem S1x3x512 .f32) (harg4 : arg4.IsWhole) (arg5 : Memref sig .tc .vmem S1x2048x68 .f32) (harg5 : arg5.IsWhole) (arg6 : Memref sig .tc .vmem S1x2048x1 .i32) (harg6 : arg6.IsWhole)
    (x0 : Vec F S1x2048x3 .f32) (x1 : Vec F S1x2048x64 .f32) (x2 : Vec F S1x3x512 .f32) (y : S1x2048x68.Idx) :
    ∃ pc ∈ (kernelRun1_A c i arg2 harg2 arg3 harg3 arg4 harg4 arg5 harg5 arg6 harg6 x0 x1 x2).1, y ∈ pc.1.set :=
  View.cover_of_tiledBy (kernelRun1_A c i arg2 harg2 arg3 harg3 arg4 harg4 arg5 harg5 arg6 harg6 x0 x1 x2).1 ![1, 2048, 1] (by sl_kernel_rfl) y

/-- What the run leaves in output 3's staging buffer: its pieces read back over junk. -/
def out1_A_3 (c : Dev nD) (i : grid1.Coords) (arg2 : Memref sig .tc .vmem S1x2048x3 .f32) (harg2 : arg2.IsWhole) (arg3 : Memref sig .tc .vmem S1x2048x64 .f32) (harg3 : arg3.IsWhole) (arg4 : Memref sig .tc .vmem S1x3x512 .f32) (harg4 : arg4.IsWhole) (arg5 : Memref sig .tc .vmem S1x2048x68 .f32) (harg5 : arg5.IsWhole) (arg6 : Memref sig .tc .vmem S1x2048x1 .i32) (harg6 : arg6.IsWhole)
    (x0 : Vec F S1x2048x3 .f32) (x1 : Vec F S1x2048x64 .f32) (x2 : Vec F S1x3x512 .f32) : Vec F S1x2048x68 .f32 :=
  VO1_3.read (Elt F) (VO1_3.writes (Elt F) VO1_3.junk (kernelRun1_A c i arg2 harg2 arg3 harg3 arg4 harg4 arg5 harg5 arg6 harg6 x0 x1 x2).1)

/-- The run's pieces for output 4 tile its block (1 store of `S1x2048x1`, checked by the kernel's evaluation: Lib/Ring.lean `Piece.tiledL`, linear in the pieces, through a loop's `@[irreducible]` trip theorem too), so they cover it. -/
theorem cover1_A_4 (c : Dev nD) (i : grid1.Coords) (arg2 : Memref sig .tc .vmem S1x2048x3 .f32) (harg2 : arg2.IsWhole) (arg3 : Memref sig .tc .vmem S1x2048x64 .f32) (harg3 : arg3.IsWhole) (arg4 : Memref sig .tc .vmem S1x3x512 .f32) (harg4 : arg4.IsWhole) (arg5 : Memref sig .tc .vmem S1x2048x68 .f32) (harg5 : arg5.IsWhole) (arg6 : Memref sig .tc .vmem S1x2048x1 .i32) (harg6 : arg6.IsWhole)
    (x0 : Vec F S1x2048x3 .f32) (x1 : Vec F S1x2048x64 .f32) (x2 : Vec F S1x3x512 .f32) (y : S1x2048x1.Idx) :
    ∃ pc ∈ (kernelRun1_A c i arg2 harg2 arg3 harg3 arg4 harg4 arg5 harg5 arg6 harg6 x0 x1 x2).2.1, y ∈ pc.1.set :=
  View.cover_of_tiledL (kernelRun1_A c i arg2 harg2 arg3 harg3 arg4 harg4 arg5 harg5 arg6 harg6 x0 x1 x2).2.1 S1x2048x1.size (by sl_kernel_rfl) y

/-- What the run leaves in output 4's staging buffer: its pieces read back over junk. -/
def out1_A_4 (c : Dev nD) (i : grid1.Coords) (arg2 : Memref sig .tc .vmem S1x2048x3 .f32) (harg2 : arg2.IsWhole) (arg3 : Memref sig .tc .vmem S1x2048x64 .f32) (harg3 : arg3.IsWhole) (arg4 : Memref sig .tc .vmem S1x3x512 .f32) (harg4 : arg4.IsWhole) (arg5 : Memref sig .tc .vmem S1x2048x68 .f32) (harg5 : arg5.IsWhole) (arg6 : Memref sig .tc .vmem S1x2048x1 .i32) (harg6 : arg6.IsWhole)
    (x0 : Vec F S1x2048x3 .f32) (x1 : Vec F S1x2048x64 .f32) (x2 : Vec F S1x3x512 .f32) : Vec F S1x2048x1 .i32 :=
  VO1_4.read (Elt F) (VO1_4.writes (Elt F) VO1_4.junk (kernelRun1_A c i arg2 harg2 arg3 harg3 arg4 harg4 arg5 harg5 arg6 harg6 x0 x1 x2).2.1)

/-! ## What the outputs hold after each point -/

/-- What the outputs' staging buffers hold after the body at point `t` (as a tuple, in window order): the run's contents at
    the point's memrefs and input blocks. -/
def outsAt1 (c : Dev nD) (t : Fin cfg1.N) : Vec F S1x2048x68 .f32 × Vec F S1x2048x1 .i32 :=
  (out1_A_3 c (grid1.coords t) (ms1_0 t) (hs1_0 t) (ms1_1 t) (hs1_1 t) (ms1_2 t) (hs1_2 t) (ms1_3 t) (hs1_3 t) (ms1_4 t) (hs1_4 t) (iblk1 V c 0 t) (iblk1 V c 1 t) (iblk1 V c 2 t), out1_A_4 c (grid1.coords t) (ms1_0 t) (hs1_0 t) (ms1_1 t) (hs1_1 t) (ms1_2 t) (hs1_2 t) (ms1_3 t) (hs1_3 t) (ms1_4 t) (hs1_4 t) (iblk1 V c 0 t) (iblk1 V c 1 t) (iblk1 V c 2 t))

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t).1
    | ⟨4, _⟩ => (outsAt1 V c t).2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t).1 := by dsimp only [dat1]
theorem after1_4 (c : Dev nD) (t : Fin cfg1.N) : (dat1 V c).after 4 t = (outsAt1 V c t).2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

/-- The body at any point: the inputs' memrefs hold their blocks (`before1_W`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  unfold outsAt1
  unfold out1_A_3 out1_A_4; (try dsimp only)
  iintro ⟨HΦ, Ho, ⟨%d0, H0⟩, ⟨%d1, H1⟩, ⟨%d2, H2⟩, ⟨%d3, H3⟩, ⟨%d4, H4⟩⟩
  iapply ((kernelRun1_A c (grid1.coords t) _ _ _ _ _ _ _ _ _ _ (iblk1 V c 0 t) (iblk1 V c 1 t) (iblk1 V c 2 t)).2.2 Set.univ _)
  isplitl [H0]; · iexact H0
  isplitl [H1]; · iexact H1
  isplitl [H2]; · iexact H2
  isplitl [H3]; · iexists _; iexact H3
  isplitl [H4]; · iexists _; iexact H4
  iintro ⟨H0, H1, H2, ⟨%e3, H3⟩, ⟨%e4, H4⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover1_A_3 c _ _ _ _ _ _ _ _ _ _ _ _ _ _)
  unfold owns; iexists _; isplitr
  swap; · iexact H4
  ipureintro; exact View.read_writes_of_cover _ _ _ _ _ (cover1_A_4 c _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v7, main_v8, main_v9, main_v10, main_v11, main_v12, main_v13, main_v14]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v16]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run is that chain (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- The run with every unscoped buffer read: every fair execution ends, nothing faulting, with every unscoped buffer at the last
    boundary's contents and every counter at zero. -/
theorem contents : θ_run defs (onTc (τ := τ) (main (F := F))) ⟨m, fun _ => 0, ρ⟩ (fun r => (∀ c : Dev nD,
      ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The frame: the argument arrays end as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
    ⟨(h.1 c _ (mem_uc main_arg0 (by decide))).trans (W5_main_arg0 m ρ c), (h.1 c _ (mem_uc main_arg1 (by decide))).trans (W5_main_arg1 m ρ c)⟩, h.2⟩)
    (contents m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h => h.1) (frame m ρ)

end Cert.KernelIdeal.Gen

end
-- ==== Proof.RefRun.lean ====
/- The reference program run by hand: its host operations in stretches, its counted loop, and the contents that every
   buffer has at the end. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- The host operations before the loop, in order. -/
abbrev pre0 : List (HloOp τ sig (Elt F)) :=
  [ StableHlo.nullary main_c (constantI S_ 32 0#32),
    StableHlo.unary main_c main_v0 (broadcastInDim S16x512 ![] bcast_S_S16x512 : (⟨S_, .i32⟩ : BufTy).Contents (Elt F) → (⟨S16x512, .i32⟩ : BufTy).Contents (Elt F)),
    StableHlo.nullary main_cst (constant S_ .f32 0x501502F9#32),
    StableHlo.unary main_cst main_v1 (broadcastInDim S16x8192 ![] bcast_S_S16x8192 : (⟨S_, .f32⟩ : BufTy).Contents (Elt F) → (⟨S16x8192, .f32⟩ : BufTy).Contents (Elt F)),
    StableHlo.nullary main_c_0 (constantI S_ 32 1#32),
    StableHlo.nullary main_c_1 (constantI S_ 32 0#32),
    StableHlo.unary main_arg0 main_v2_0 id,
    StableHlo.unary main_c_1 main_v2_1 id,
    StableHlo.unary main_c_0 main_v2_2 id,
    StableHlo.unary main_v1 main_v2_3 id,
    StableHlo.unary main_v0 main_v2_4 id ]

/-- They touch host buffers only. -/
theorem pre0_sub : (pre0 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub ..⟩

/-- None of them makes a buffer. -/
theorem pre0_fresh : (pre0 : List (HloOp τ sig (Elt F))).Forall fun op => op.fresh = ∅ :=
  StableHlo.forall_fresh_of_map rfl

/-- What they write, in order. -/
abbrev pre0_W : List (Ref sig .tc) := [main_c, main_v0, main_cst, main_v1, main_c_0, main_c_1, main_v2_0, main_v2_1, main_v2_2, main_v2_3, main_v2_4]

/-- They write nothing else. -/
theorem pre0_writes : (pre0 : List (HloOp τ sig (Elt F))).Forall fun op => op.writes ⊆ (pre0_W.map (Proc.devRef (τ := τ) .tc)).toFinset :=
  StableHlo.forall_writes_sub_of_map rfl

/-- A buffer that they do not write keeps its contents. -/
theorem pre0_keep (V : Valuation τ sig (Elt F)) (r : Ref sig .tc) (h : r ∉ pre0_W) :
    after pre0 V (Proc.devRef .tc r) = V (Proc.devRef .tc r) :=
  after_of_writes_sub pre0 V pre0_writes h

/-- A stretch of the loop body's operations, in order. -/
abbrev body0 : List (HloOp τ sig (Elt F)) :=
  [ StableHlo.nullary main_while0b_c_10 (constantI S_ 32 1#32),
    StableHlo.binary main_v2_2 main_while0b_c_10 main_while0b_v30 (addi : (⟨S_, .i32⟩ : BufTy).Contents (Elt F) → (⟨S_, .i32⟩ : BufTy).Contents (Elt F) → (⟨S_, .i32⟩ : BufTy).Contents (Elt F)),
    StableHlo.nullary main_while0b_c_11 (constantI S_ 32 1#32),
    StableHlo.binary main_v2_2 main_while0b_c_11 main_while0b_v31 (subi : (⟨S_, .i32⟩ : BufTy).Contents (Elt F) → (⟨S_, .i32⟩ : BufTy).Contents (Elt F) → (⟨S_, .i32⟩ : BufTy).Contents (Elt F)),
    StableHlo.nullary main_while0b_c_12 (constantI S_ 32 0#32),
    StableHlo.binary main_while0b_v31 main_while0b_c_12 main_while0b_v32 (cmpi .slt : (⟨S_, .i32⟩ : BufTy).Contents (Elt F) → (⟨S_, .i32⟩ : BufTy).Contents (Elt F) → (⟨S_, .i1⟩ : BufTy).Contents (Elt F)),
    StableHlo.unary main_while0b_v31 main_while0b_v33 (id : (⟨S_, .i32⟩ : BufTy).Contents (Elt F) → (⟨S_, .i32⟩ : BufTy).Contents (Elt F)),
    StableHlo.nullary main_while0b_c_13 (constantI S_ 32 512#32),
    StableHlo.binary main_while0b_v33 main_while0b_c_13 main_while0b_v34 (addi : (⟨S_, .i32⟩ : BufTy).Contents (Elt F) → (⟨S_, .i32⟩ : BufTy).Contents (Elt F) → (⟨S_, .i32⟩ : BufTy).Contents (Elt F)),
    StableHlo.ternary main_while0b_v32 main_while0b_v34 main_while0b_v31 main_while0b_v35 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_14 (constantI S_ 32 0#32),
    StableHlo.unaryIndexed main_v2_4 ![main_while0b_c_14, main_while0b_v35] ⟨S_, .i32⟩ main_while0b_v36 ((fun x i => Host.dynamicSlice S16x1 x (fun k => (i k (Shape.Idx.first h_S_)).toInt) sliceFits_S16x512_S16x1) : (⟨S16x512, .i32⟩ : BufTy).Contents (Elt F) → (Fin 2 → (⟨S_, .i32⟩ : BufTy).Contents (Elt F)) → (⟨S16x1, .i32⟩ : BufTy).Contents (Elt F)),
    StableHlo.unary main_while0b_v36 main_while0b_v37 (broadcastInDim S16x1x1 ![0, 1] bcast_S16x1_S16x1x1_0_1 : (⟨S16x1, .i32⟩ : BufTy).Contents (Elt F) → (⟨S16x1x1, .i32⟩ : BufTy).Contents (Elt F)),
    StableHlo.unary main_while0b_v37 main_while0b_v38 (broadcastInDim S16x1x3 ![0, 1, 2] bcast_S16x1x1_S16x1x3_0_1_2 : (⟨S16x1x1, .i32⟩ : BufTy).Contents (Elt F) → (⟨S16x1x3, .i32⟩ : BufTy).Contents (Elt F)) ]

/-- They touch host buffers only. -/
theorem body0_sub : (body0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.nullary_bufs_sub .., StableHlo.binary_bufs_sub .., StableHlo.unary_bufs_sub .., StableHlo.nullary_bufs_sub .., StableHlo.binary_bufs_sub .., StableHlo.ternary_bufs_sub .., StableHlo.nullary_bufs_sub .., StableHlo.unaryIndexed_bufs_sub .., StableHlo.unary_bufs_sub .., StableHlo.unary_bufs_sub ..⟩

/-- None of them makes a buffer. -/
theorem body0_fresh : (body0 : List (HloOp τ sig (Elt F))).Forall fun op => op.fresh = ∅ :=
  StableHlo.forall_fresh_of_map rfl

/-- What they write, in order. -/
abbrev body0_W : List (Ref sig .tc) := [main_while0b_c_10, main_while0b_v30, main_while0b_c_11, main_while0b_v31, main_while0b_c_12, main_while0b_v32, main_while0b_v33, main_while0b_c_13, main_while0b_v34, main_while0b_v35, main_while0b_c_14, main_while0b_v36, main_while0b_v37, main_while0b_v38]

/-- They write nothing else. -/
theorem body0_writes : (body0 : List (HloOp τ sig (Elt F))).Forall fun op => op.writes ⊆ (body0_W.map (Proc.devRef (τ := τ) .tc)).toFinset :=
  StableHlo.forall_writes_sub_of_map rfl

/-- A buffer that they do not write keeps its contents. -/
theorem body0_keep (V : Valuation τ sig (Elt F)) (r : Ref sig .tc) (h : r ∉ body0_W) :
    after body0 V (Proc.devRef .tc r) = V (Proc.devRef .tc r) :=
  after_of_writes_sub body0 V body0_writes h

/-- A stretch of the loop body's operations, in order. -/
abbrev body1 : List (HloOp τ sig (Elt F)) :=
  [ StableHlo.TRef.nullary (.of main_while0b_call0_c : StableHlo.TRef sig ⟨S_, .i32⟩) (constantI S_ 32 0#32),
    StableHlo.TRef.unary (.of main_while0b_call0_c : StableHlo.TRef sig ⟨S_, .i32⟩) (.of main_while0b_call0_v0 : StableHlo.TRef sig ⟨S16x1x3, .i32⟩) (broadcastInDim S16x1x3 ![] bcast_S_S16x1x3),
    StableHlo.TRef.binary (.of main_while0b_v38 : StableHlo.TRef sig ⟨S16x1x3, .i32⟩) (.of main_while0b_call0_v0 : StableHlo.TRef sig ⟨S16x1x3, .i32⟩) (.of main_while0b_call0_v1 : StableHlo.TRef sig ⟨S16x1x3, .i1⟩) (cmpi .slt),
    StableHlo.TRef.nullary (.of main_while0b_call0_c_0 : StableHlo.TRef sig ⟨S_, .i32⟩) (constantI S_ 32 8192#32),
    StableHlo.TRef.unary (.of main_while0b_call0_c_0 : StableHlo.TRef sig ⟨S_, .i32⟩) (.of main_while0b_call0_v2 : StableHlo.TRef sig ⟨S16x1x3, .i32⟩) (broadcastInDim S16x1x3 ![] bcast_S_S16x1x3),
    StableHlo.TRef.binary (.of main_while0b_v38 : StableHlo.TRef sig ⟨S16x1x3, .i32⟩) (.of main_while0b_call0_v2 : StableHlo.TRef sig ⟨S16x1x3, .i32⟩) (.of main_while0b_call0_v3 : StableHlo.TRef sig ⟨S16x1x3, .i32⟩) addi,
    StableHlo.TRef.ternary (.of main_while0b_call0_v1 : StableHlo.TRef sig ⟨S16x1x3, .i1⟩) (.of main_while0b_call0_v3 : StableHlo.TRef sig ⟨S16x1x3, .i32⟩) (.of main_while0b_v38 : StableHlo.TRef sig ⟨S16x1x3, .i32⟩) (.of main_while0b_call0_v4 : StableHlo.TRef sig ⟨S16x1x3, .i32⟩) select,
    StableHlo.TRef.reshape (.of main_while0b_call0_v4 : StableHlo.TRef sig ⟨S16x1x3, .i32⟩) (.of main_while0b_call0_v5 : StableHlo.TRef sig ⟨S16x1x3x1, .i32⟩) (rfl : (.i32 : EltTy) = .i32) shapeCasts_S16x1x3_S16x1x3x1,
    StableHlo.TRef.binary (.of main_v2_0 : StableHlo.TRef sig ⟨S16x8192x3, .f32⟩) (.of main_while0b_call0_v5 : StableHlo.TRef sig ⟨S16x1x3x1, .i32⟩) (.of main_while0b_v39 : StableHlo.TRef sig ⟨S16x1x3, .f32⟩) (fun x i => Host.gather gather_S16x8192x3_S16x1x3x1_S16x1x3_n_1_02_02_1_3_111 x i) ]

/-- They touch host buffers only. -/
theorem body1_sub : (body1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.binary_bufs_sub ..⟩

/-- None of them makes a buffer. -/
theorem body1_fresh : (body1 : List (HloOp τ sig (Elt F))).Forall fun op => op.fresh = ∅ :=
  StableHlo.forall_fresh_of_map rfl

/-- What they write, in order. -/
abbrev body1_W : List (Ref sig .tc) := [main_while0b_call0_c, main_while0b_call0_v0, main_while0b_call0_v1, main_while0b_call0_c_0, main_while0b_call0_v2, main_while0b_call0_v3, main_while0b_call0_v4, main_while0b_call0_v5, main_while0b_v39]

/-- They write nothing else. -/
theorem body1_writes : (body1 : List (HloOp τ sig (Elt F))).Forall fun op => op.writes ⊆ (body1_W.map (Proc.devRef (τ := τ) .tc)).toFinset :=
  StableHlo.forall_writes_sub_of_map rfl

/-- A buffer that they do not write keeps its contents. -/
theorem body1_keep (V : Valuation τ sig (Elt F)) (r : Ref sig .tc) (h : r ∉ body1_W) :
    after body1 V (Proc.devRef .tc r) = V (Proc.devRef .tc r) :=
  after_of_writes_sub body1 V body1_writes h

/-- A stretch of the loop body's operations, in order. -/
abbrev body2 : List (HloOp τ sig (Elt F)) :=
  [ StableHlo.unary main_while0b_v39 main_while0b_v40 (broadcastInDim S16x8192x3 ![0, 1, 2] bcast_S16x1x3_S16x8192x3_0_1_2 : (⟨S16x1x3, .f32⟩ : BufTy).Contents (Elt F) → (⟨S16x8192x3, .f32⟩ : BufTy).Contents (Elt F)),
    StableHlo.binary main_v2_0 main_while0b_v40 main_while0b_v41 (subf : (⟨S16x8192x3, .f32⟩ : BufTy).Contents (Elt F) → (⟨S16x8192x3, .f32⟩ : BufTy).Contents (Elt F) → (⟨S16x8192x3, .f32⟩ : BufTy).Contents (Elt F)),
    StableHlo.binary main_while0b_v41 main_while0b_v41 main_while0b_v42 (mulf : (⟨S16x8192x3, .f32⟩ : BufTy).Contents (Elt F) → (⟨S16x8192x3, .f32⟩ : BufTy).Contents (Elt F) → (⟨S16x8192x3, .f32⟩ : BufTy).Contents (Elt F)),
    StableHlo.nullary main_while0b_cst_15 (constant S_ .f32 0x00000000#32),
    StableHlo.binary main_while0b_v42 main_while0b_cst_15 main_while0b_v43 ((fun x v => Host.reduceAdd x v reducesTo_S16x8192x3_S16x8192_d2 h_S_) : (⟨S16x8192x3, .f32⟩ : BufTy).Contents (Elt F) → (⟨S_, .f32⟩ : BufTy).Contents (Elt F) → (⟨S16x8192, .f32⟩ : BufTy).Contents (Elt F)),
    StableHlo.binary main_v2_3 main_while0b_v43 main_while0b_v44 (minimumf : (⟨S16x8192, .f32⟩ : BufTy).Contents (Elt F) → (⟨S16x8192, .f32⟩ : BufTy).Contents (Elt F) → (⟨S16x8192, .f32⟩ : BufTy).Contents (Elt F)) ]

/-- They touch host buffers only. -/
theorem body2_sub : (body2 : List (HloOp τ sig (Elt F))).Forall fun op => op.bufs ⊆ StableHlo.tcRefs τ sig :=
  ⟨StableHlo.unary_bufs_sub .., StableHlo.binary_bufs_sub .., StableHlo.binary_bufs_sub .., StableHlo.nullary_bufs_sub .., StableHlo.binary_bufs_sub .., StableHlo.binary_bufs_sub ..⟩

/-- None of them makes a buffer. -/
theorem body2_fresh : (body2 : List (HloOp τ sig (Elt F))).Forall fun op => op.fresh = ∅ :=
  StableHlo.forall_fresh_of_map rfl

/-- What they write, in order. -/
abbrev body2_W : List (Ref sig .tc) := [main_while0b_v40, main_while0b_v41, main_while0b_v42, main_while0b_cst_15, main_while0b_v43, main_while0b_v44]

/-- They write nothing else. -/
theorem body2_writes : (body2 : List (HloOp τ sig (Elt F))).Forall fun op => op.writes ⊆ (body2_W.map (Proc.devRef (τ := τ) .tc)).toFinset :=
  StableHlo.forall_writes_sub_of_map rfl

/-- A buffer that they do not write keeps its contents. -/
theorem body2_keep (V : Valuation τ sig (Elt F)) (r : Ref sig .tc) (h : r ∉ body2_W) :
    after body2 V (Proc.devRef .tc r) = V (Proc.devRef .tc r) :=
  after_of_writes_sub body2 V body2_writes h

/-- A stretch of the loop body's operations, in order. -/
abbrev body3 : List (HloOp τ sig (Elt F)) :=
  [ StableHlo.TRef.nullary (.of main_while0b_call1_v0 : StableHlo.TRef sig ⟨S16x8192, .i32⟩) (iotaInDim S16x8192 32 1),
    StableHlo.TRef.nullary (.of main_while0b_call1_cst : StableHlo.TRef sig ⟨S_, .f32⟩) (constant S_ .f32 0xFF800000#32),
    StableHlo.TRef.nullary (.of main_while0b_call1_c : StableHlo.TRef sig ⟨S_, .i32⟩) (constantI S_ 32 0#32),
    StableHlo.TRef.quaternary (.of main_while0b_v44 : StableHlo.TRef sig ⟨S16x8192, .f32⟩) (.of main_while0b_call1_v0 : StableHlo.TRef sig ⟨S16x8192, .i32⟩) (.of main_while0b_call1_cst : StableHlo.TRef sig ⟨S_, .f32⟩) (.of main_while0b_call1_c : StableHlo.TRef sig ⟨S_, .i32⟩) (.of main_while0b_call1_v1_0 : StableHlo.TRef sig ⟨S16, .f32⟩) (fun x y u v j => (Host.argReduce reducer_argmax_f32_i32 x y u v reducesTo_S16x8192_S16_d1 h_S_ j).1),
    StableHlo.TRef.quaternary (.of main_while0b_v44 : StableHlo.TRef sig ⟨S16x8192, .f32⟩) (.of main_while0b_call1_v0 : StableHlo.TRef sig ⟨S16x8192, .i32⟩) (.of main_while0b_call1_cst : StableHlo.TRef sig ⟨S_, .f32⟩) (.of main_while0b_call1_c : StableHlo.TRef sig ⟨S_, .i32⟩) (.of main_while0b_v45 : StableHlo.TRef sig ⟨S16, .i32⟩) (fun x y u v j => (Host.argReduce reducer_argmax_f32_i32 x y u v reducesTo_S16x8192_S16_d1 h_S_ j).2) ]

/-- They touch host buffers only. -/
theorem body3_sub : (body3 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩

/-- None of them makes a buffer. -/
theorem body3_fresh : (body3 : List (HloOp τ sig (Elt F))).Forall fun op => op.fresh = ∅ :=
  StableHlo.forall_fresh_of_map rfl

/-- What they write, in order. -/
abbrev body3_W : List (Ref sig .tc) := [main_while0b_call1_v0, main_while0b_call1_cst, main_while0b_call1_c, main_while0b_call1_v1_0, main_while0b_v45]

/-- They write nothing else. -/
theorem body3_writes : (body3 : List (HloOp τ sig (Elt F))).Forall fun op => op.writes ⊆ (body3_W.map (Proc.devRef (τ := τ) .tc)).toFinset :=
  StableHlo.forall_writes_sub_of_map rfl

/-- A buffer that they do not write keeps its contents. -/
theorem body3_keep (V : Valuation τ sig (Elt F)) (r : Ref sig .tc) (h : r ∉ body3_W) :
    after body3 V (Proc.devRef .tc r) = V (Proc.devRef .tc r) :=
  after_of_writes_sub body3 V body3_writes h

/-- A stretch of the loop body's operations, in order. -/
abbrev body4 : List (HloOp τ sig (Elt F)) :=
  [ StableHlo.unary main_while0b_v45 main_while0b_v46 (broadcastInDim S16x1 ![0] bcast_S16_S16x1_0 : (⟨S16, .i32⟩ : BufTy).Contents (Elt F) → (⟨S16x1, .i32⟩ : BufTy).Contents (Elt F)),
    StableHlo.nullary main_while0b_c_16 (constantI S_ 32 0#32),
    StableHlo.binary main_v2_2 main_while0b_c_16 main_while0b_v47 (cmpi .slt : (⟨S_, .i32⟩ : BufTy).Contents (Elt F) → (⟨S_, .i32⟩ : BufTy).Contents (Elt F) → (⟨S_, .i1⟩ : BufTy).Contents (Elt F)),
    StableHlo.unary main_v2_2 main_while0b_v48 (id : (⟨S_, .i32⟩ : BufTy).Contents (Elt F) → (⟨S_, .i32⟩ : BufTy).Contents (Elt F)),
    StableHlo.nullary main_while0b_c_17 (constantI S_ 32 512#32),
    StableHlo.binary main_while0b_v48 main_while0b_c_17 main_while0b_v49 (addi : (⟨S_, .i32⟩ : BufTy).Contents (Elt F) → (⟨S_, .i32⟩ : BufTy).Contents (Elt F) → (⟨S_, .i32⟩ : BufTy).Contents (Elt F)),
    StableHlo.ternary main_while0b_v47 main_while0b_v49 main_v2_2 main_while0b_v50 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_18 (constantI S_ 32 0#32),
    StableHlo.binaryIndexed main_v2_4 main_while0b_v46 ![main_while0b_c_18, main_while0b_v50] ⟨S_, .i32⟩ main_while0b_v51 ((fun x u i => Host.dynamicUpdateSlice x u (fun k => (i k (Shape.Idx.first h_S_)).toInt) updateFits_S16x512_S16x1) : (⟨S16x512, .i32⟩ : BufTy).Contents (Elt F) → (⟨S16x1, .i32⟩ : BufTy).Contents (Elt F) → (Fin 2 → (⟨S_, .i32⟩ : BufTy).Contents (Elt F)) → (⟨S16x512, .i32⟩ : BufTy).Contents (Elt F)),
    StableHlo.nullary main_while0b_c_19 (constantI S_ 32 1#32),
    StableHlo.binary main_v2_1 main_while0b_c_19 main_while0b_v52 (addi : (⟨S_, .i32⟩ : BufTy).Contents (Elt F) → (⟨S_, .i32⟩ : BufTy).Contents (Elt F) → (⟨S_, .i32⟩ : BufTy).Contents (Elt F)),
    StableHlo.unary main_while0b_v52 main_v2_1 id,
    StableHlo.unary main_while0b_v30 main_v2_2 id,
    StableHlo.unary main_while0b_v44 main_v2_3 id,
    StableHlo.unary main_while0b_v51 main_v2_4 id ]

/-- They touch host buffers only. -/
theorem body4_sub : (body4 : List (HloOp τ sig (Elt F))).Forall fun op => op.bufs ⊆ StableHlo.tcRefs τ sig :=
  ⟨StableHlo.unary_bufs_sub .., StableHlo.nullary_bufs_sub .., StableHlo.binary_bufs_sub .., StableHlo.unary_bufs_sub .., StableHlo.nullary_bufs_sub .., StableHlo.binary_bufs_sub .., StableHlo.ternary_bufs_sub .., StableHlo.nullary_bufs_sub .., StableHlo.binaryIndexed_bufs_sub .., StableHlo.nullary_bufs_sub .., StableHlo.binary_bufs_sub .., StableHlo.unary_bufs_sub .., StableHlo.unary_bufs_sub .., StableHlo.unary_bufs_sub .., StableHlo.unary_bufs_sub ..⟩

/-- None of them makes a buffer. -/
theorem body4_fresh : (body4 : List (HloOp τ sig (Elt F))).Forall fun op => op.fresh = ∅ :=
  StableHlo.forall_fresh_of_map rfl

/-- What they write, in order. -/
abbrev body4_W : List (Ref sig .tc) := [main_while0b_v46, main_while0b_c_16, main_while0b_v47, main_while0b_v48, main_while0b_c_17, main_while0b_v49, main_while0b_v50, main_while0b_c_18, main_while0b_v51, main_while0b_c_19, main_while0b_v52, main_v2_1, main_v2_2, main_v2_3, main_v2_4]

/-- They write nothing else. -/
theorem body4_writes : (body4 : List (HloOp τ sig (Elt F))).Forall fun op => op.writes ⊆ (body4_W.map (Proc.devRef (τ := τ) .tc)).toFinset :=
  StableHlo.forall_writes_sub_of_map rfl

/-- A buffer that they do not write keeps its contents. -/
theorem body4_keep (V : Valuation τ sig (Elt F)) (r : Ref sig .tc) (h : r ∉ body4_W) :
    after body4 V (Proc.devRef .tc r) = V (Proc.devRef .tc r) :=
  after_of_writes_sub body4 V body4_writes h

/-- A stretch of the operations after the loop, in order. -/
abbrev post0 : List (HloOp τ sig (Elt F)) :=
  [ StableHlo.unary main_v2_4 main_v3 (broadcastInDim S16x512x1 ![0, 1] bcast_S16x512_S16x512x1_0_1 : (⟨S16x512, .i32⟩ : BufTy).Contents (Elt F) → (⟨S16x512x1, .i32⟩ : BufTy).Contents (Elt F)),
    StableHlo.unary main_v3 main_v4 (broadcastInDim S16x512x3 ![0, 1, 2] bcast_S16x512x1_S16x512x3_0_1_2 : (⟨S16x512x1, .i32⟩ : BufTy).Contents (Elt F) → (⟨S16x512x3, .i32⟩ : BufTy).Contents (Elt F)) ]

/-- They touch host buffers only. -/
theorem post0_sub : (post0 : List (HloOp τ sig (Elt F))).Forall fun op => op.bufs ⊆ StableHlo.tcRefs τ sig :=
  ⟨StableHlo.unary_bufs_sub .., StableHlo.unary_bufs_sub ..⟩

/-- None of them makes a buffer. -/
theorem post0_fresh : (post0 : List (HloOp τ sig (Elt F))).Forall fun op => op.fresh = ∅ :=
  StableHlo.forall_fresh_of_map rfl

/-- What they write, in order. -/
abbrev post0_W : List (Ref sig .tc) := [main_v3, main_v4]

/-- They write nothing else. -/
theorem post0_writes : (post0 : List (HloOp τ sig (Elt F))).Forall fun op => op.writes ⊆ (post0_W.map (Proc.devRef (τ := τ) .tc)).toFinset :=
  StableHlo.forall_writes_sub_of_map rfl

/-- A buffer that they do not write keeps its contents. -/
theorem post0_keep (V : Valuation τ sig (Elt F)) (r : Ref sig .tc) (h : r ∉ post0_W) :
    after post0 V (Proc.devRef .tc r) = V (Proc.devRef .tc r) :=
  after_of_writes_sub post0 V post0_writes h

/-- A stretch of the operations after the loop, in order. -/
abbrev post1 : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S16x512x3, .i32⟩) (broadcastInDim S16x512x3 ![] bcast_S_S16x512x3),
    StableHlo.TRef.binary (.of main_v4 : StableHlo.TRef sig ⟨S16x512x3, .i32⟩) (.of main_call2_v0 : StableHlo.TRef sig ⟨S16x512x3, .i32⟩) (.of main_call2_v1 : StableHlo.TRef sig ⟨S16x512x3, .i1⟩) (cmpi .slt),
    StableHlo.TRef.nullary (.of main_call2_c_0 : StableHlo.TRef sig ⟨S_, .i32⟩) (constantI S_ 32 8192#32),
    StableHlo.TRef.unary (.of main_call2_c_0 : StableHlo.TRef sig ⟨S_, .i32⟩) (.of main_call2_v2 : StableHlo.TRef sig ⟨S16x512x3, .i32⟩) (broadcastInDim S16x512x3 ![] bcast_S_S16x512x3),
    StableHlo.TRef.binary (.of main_v4 : StableHlo.TRef sig ⟨S16x512x3, .i32⟩) (.of main_call2_v2 : StableHlo.TRef sig ⟨S16x512x3, .i32⟩) (.of main_call2_v3 : StableHlo.TRef sig ⟨S16x512x3, .i32⟩) addi,
    StableHlo.TRef.ternary (.of main_call2_v1 : StableHlo.TRef sig ⟨S16x512x3, .i1⟩) (.of main_call2_v3 : StableHlo.TRef sig ⟨S16x512x3, .i32⟩) (.of main_v4 : StableHlo.TRef sig ⟨S16x512x3, .i32⟩) (.of main_call2_v4 : StableHlo.TRef sig ⟨S16x512x3, .i32⟩) select,
    StableHlo.TRef.reshape (.of main_call2_v4 : StableHlo.TRef sig ⟨S16x512x3, .i32⟩) (.of main_call2_v5 : StableHlo.TRef sig ⟨S16x512x3x1, .i32⟩) (rfl : (.i32 : EltTy) = .i32) shapeCasts_S16x512x3_S16x512x3x1,
    StableHlo.TRef.binary (.of main_arg0 : StableHlo.TRef sig ⟨S16x8192x3, .f32⟩) (.of main_call2_v5 : StableHlo.TRef sig ⟨S16x512x3x1, .i32⟩) (.of main_v5 : StableHlo.TRef sig ⟨S16x512x3, .f32⟩) (fun x i => Host.gather gather_S16x8192x3_S16x512x3x1_S16x512x3_n_1_02_02_1_3_111 x i) ]

/-- They touch host buffers only. -/
theorem post1_sub : (post1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.binary_bufs_sub ..⟩

/-- None of them makes a buffer. -/
theorem post1_fresh : (post1 : List (HloOp τ sig (Elt F))).Forall fun op => op.fresh = ∅ :=
  StableHlo.forall_fresh_of_map rfl

/-- What they write, in order. -/
abbrev post1_W : List (Ref sig .tc) := [main_call2_c, main_call2_v0, main_call2_v1, main_call2_c_0, main_call2_v2, main_call2_v3, main_call2_v4, main_call2_v5, main_v5]

/-- They write nothing else. -/
theorem post1_writes : (post1 : List (HloOp τ sig (Elt F))).Forall fun op => op.writes ⊆ (post1_W.map (Proc.devRef (τ := τ) .tc)).toFinset :=
  StableHlo.forall_writes_sub_of_map rfl

/-- A buffer that they do not write keeps its contents. -/
theorem post1_keep (V : Valuation τ sig (Elt F)) (r : Ref sig .tc) (h : r ∉ post1_W) :
    after post1 V (Proc.devRef .tc r) = V (Proc.devRef .tc r) :=
  after_of_writes_sub post1 V post1_writes h

/-- A stretch of the operations after the loop, in order. -/
abbrev post2 : List (HloOp τ sig (Elt F)) :=
  [ StableHlo.binary main_arg0 main_arg0 main_v6 (mulf : (⟨S16x8192x3, .f32⟩ : BufTy).Contents (Elt F) → (⟨S16x8192x3, .f32⟩ : BufTy).Contents (Elt F) → (⟨S16x8192x3, .f32⟩ : BufTy).Contents (Elt F)),
    StableHlo.nullary main_cst_2 (constant S_ .f32 0x00000000#32),
    StableHlo.binary main_v6 main_cst_2 main_v7 ((fun x v => Host.reduceAdd x v reducesTo_S16x8192x3_S16x8192_d2 h_S_) : (⟨S16x8192x3, .f32⟩ : BufTy).Contents (Elt F) → (⟨S_, .f32⟩ : BufTy).Contents (Elt F) → (⟨S16x8192, .f32⟩ : BufTy).Contents (Elt F)),
    StableHlo.unary main_v7 main_v8 (broadcastInDim S16x8192x1 ![0, 1] bcast_S16x8192_S16x8192x1_0_1 : (⟨S16x8192, .f32⟩ : BufTy).Contents (Elt F) → (⟨S16x8192x1, .f32⟩ : BufTy).Contents (Elt F)),
    StableHlo.binary main_v5 main_v5 main_v9 (mulf : (⟨S16x512x3, .f32⟩ : BufTy).Contents (Elt F) → (⟨S16x512x3, .f32⟩ : BufTy).Contents (Elt F) → (⟨S16x512x3, .f32⟩ : BufTy).Contents (Elt F)),
    StableHlo.nullary main_cst_3 (constant S_ .f32 0x00000000#32),
    StableHlo.binary main_v9 main_cst_3 main_v10 ((fun x v => Host.reduceAdd x v reducesTo_S16x512x3_S16x512_d2 h_S_) : (⟨S16x512x3, .f32⟩ : BufTy).Contents (Elt F) → (⟨S_, .f32⟩ : BufTy).Contents (Elt F) → (⟨S16x512, .f32⟩ : BufTy).Contents (Elt F)),
    StableHlo.unary main_v10 main_v11 (broadcastInDim S16x1x512 ![0, 2] bcast_S16x512_S16x1x512_0_2 : (⟨S16x512, .f32⟩ : BufTy).Contents (Elt F) → (⟨S16x1x512, .f32⟩ : BufTy).Contents (Elt F)),
    StableHlo.binary main_arg0 main_v5 main_v12 ((fun l r => Host.dotGeneral dot_S16x8192x3_S16x512x3_S16x8192x512_2_2_1_1_0_0 none l r) : (⟨S16x8192x3, .f32⟩ : BufTy).Contents (Elt F) → (⟨S16x512x3, .f32⟩ : BufTy).Contents (Elt F) → (⟨S16x8192x512, .f32⟩ : BufTy).Contents (Elt F)),
    StableHlo.unary main_v8 main_v13 (broadcastInDim S16x8192x512 ![0, 1, 2] bcast_S16x8192x1_S16x8192x512_0_1_2 : (⟨S16x8192x1, .f32⟩ : BufTy).Contents (Elt F) → (⟨S16x8192x512, .f32⟩ : BufTy).Contents (Elt F)),
    StableHlo.unary main_v11 main_v14 (broadcastInDim S16x8192x512 ![0, 1, 2] bcast_S16x1x512_S16x8192x512_0_1_2 : (⟨S16x1x512, .f32⟩ : BufTy).Contents (Elt F) → (⟨S16x8192x512, .f32⟩ : BufTy).Contents (Elt F)),
    StableHlo.binary main_v13 main_v14 main_v15 (addf : (⟨S16x8192x512, .f32⟩ : BufTy).Contents (Elt F) → (⟨S16x8192x512, .f32⟩ : BufTy).Contents (Elt F) → (⟨S16x8192x512, .f32⟩ : BufTy).Contents (Elt F)),
    StableHlo.nullary main_cst_4 (constant S_ .f32 0x40000000#32),
    StableHlo.unary main_cst_4 main_v16 (broadcastInDim S16x8192x512 ![] bcast_S_S16x8192x512 : (⟨S_, .f32⟩ : BufTy).Contents (Elt F) → (⟨S16x8192x512, .f32⟩ : BufTy).Contents (Elt F)),
    StableHlo.binary main_v16 main_v12 main_v17 (mulf : (⟨S16x8192x512, .f32⟩ : BufTy).Contents (Elt F) → (⟨S16x8192x512, .f32⟩ : BufTy).Contents (Elt F) → (⟨S16x8192x512, .f32⟩ : BufTy).Contents (Elt F)),
    StableHlo.binary main_v15 main_v17 main_v18 (subf : (⟨S16x8192x512, .f32⟩ : BufTy).Contents (Elt F) → (⟨S16x8192x512, .f32⟩ : BufTy).Contents (Elt F) → (⟨S16x8192x512, .f32⟩ : BufTy).Contents (Elt F)) ]

/-- They touch host buffers only. -/
theorem post2_sub : (post2 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub ..⟩

/-- None of them makes a buffer. -/
theorem post2_fresh : (post2 : List (HloOp τ sig (Elt F))).Forall fun op => op.fresh = ∅ :=
  StableHlo.forall_fresh_of_map rfl

/-- What they write, in order. -/
abbrev post2_W : List (Ref sig .tc) := [main_v6, main_cst_2, main_v7, main_v8, main_v9, main_cst_3, main_v10, main_v11, main_v12, main_v13, main_v14, main_v15, main_cst_4, main_v16, main_v17, main_v18]

/-- They write nothing else. -/
theorem post2_writes : (post2 : List (HloOp τ sig (Elt F))).Forall fun op => op.writes ⊆ (post2_W.map (Proc.devRef (τ := τ) .tc)).toFinset :=
  StableHlo.forall_writes_sub_of_map rfl

/-- A buffer that they do not write keeps its contents. -/
theorem post2_keep (V : Valuation τ sig (Elt F)) (r : Ref sig .tc) (h : r ∉ post2_W) :
    after post2 V (Proc.devRef .tc r) = V (Proc.devRef .tc r) :=
  after_of_writes_sub post2 V post2_writes h

/-- A stretch of the operations after the loop, in order. -/
abbrev post3 : List (HloOp τ sig (Elt F)) :=
  [ StableHlo.TRef.nullary (.of main_call3_v0 : StableHlo.TRef sig ⟨S16x8192x512, .i32⟩) (iotaInDim S16x8192x512 32 2),
    StableHlo.TRef.nullary (.of main_call3_cst : StableHlo.TRef sig ⟨S_, .f32⟩) (constant S_ .f32 0x7F800000#32),
    StableHlo.TRef.nullary (.of main_call3_c : StableHlo.TRef sig ⟨S_, .i32⟩) (constantI S_ 32 0#32),
    StableHlo.TRef.quaternary (.of main_v18 : StableHlo.TRef sig ⟨S16x8192x512, .f32⟩) (.of main_call3_v0 : StableHlo.TRef sig ⟨S16x8192x512, .i32⟩) (.of main_call3_cst : StableHlo.TRef sig ⟨S_, .f32⟩) (.of main_call3_c : StableHlo.TRef sig ⟨S_, .i32⟩) (.of main_call3_v1_0 : StableHlo.TRef sig ⟨S16x8192, .f32⟩) (fun x y u v j => (Host.argReduce reducer_argmin_f32_i32 x y u v reducesTo_S16x8192x512_S16x8192_d2 h_S_ j).1),
    StableHlo.TRef.quaternary (.of main_v18 : StableHlo.TRef sig ⟨S16x8192x512, .f32⟩) (.of main_call3_v0 : StableHlo.TRef sig ⟨S16x8192x512, .i32⟩) (.of main_call3_cst : StableHlo.TRef sig ⟨S_, .f32⟩) (.of main_call3_c : StableHlo.TRef sig ⟨S_, .i32⟩) (.of main_v19 : StableHlo.TRef sig ⟨S16x8192, .i32⟩) (fun x y u v j => (Host.argReduce reducer_argmin_f32_i32 x y u v reducesTo_S16x8192x512_S16x8192_d2 h_S_ j).2) ]

/-- They touch host buffers only. -/
theorem post3_sub : (post3 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩

/-- None of them makes a buffer. -/
theorem post3_fresh : (post3 : List (HloOp τ sig (Elt F))).Forall fun op => op.fresh = ∅ :=
  StableHlo.forall_fresh_of_map rfl

/-- What they write, in order. -/
abbrev post3_W : List (Ref sig .tc) := [main_call3_v0, main_call3_cst, main_call3_c, main_call3_v1_0, main_v19]

/-- They write nothing else. -/
theorem post3_writes : (post3 : List (HloOp τ sig (Elt F))).Forall fun op => op.writes ⊆ (post3_W.map (Proc.devRef (τ := τ) .tc)).toFinset :=
  StableHlo.forall_writes_sub_of_map rfl

/-- A buffer that they do not write keeps its contents. -/
theorem post3_keep (V : Valuation τ sig (Elt F)) (r : Ref sig .tc) (h : r ∉ post3_W) :
    after post3 V (Proc.devRef .tc r) = V (Proc.devRef .tc r) :=
  after_of_writes_sub post3 V post3_writes h

/-- A stretch of the operations after the loop, in order. -/
abbrev post4 : List (HloOp τ sig (Elt F)) :=
  [ StableHlo.unary main_v19 main_v20 (broadcastInDim S16x8192x1 ![0, 1] bcast_S16x8192_S16x8192x1_0_1 : (⟨S16x8192, .i32⟩ : BufTy).Contents (Elt F) → (⟨S16x8192x1, .i32⟩ : BufTy).Contents (Elt F)),
    StableHlo.unary main_v20 main_v21 (broadcastInDim S16x8192x3 ![0, 1, 2] bcast_S16x8192x1_S16x8192x3_0_1_2 : (⟨S16x8192x1, .i32⟩ : BufTy).Contents (Elt F) → (⟨S16x8192x3, .i32⟩ : BufTy).Contents (Elt F)) ]

/-- They touch host buffers only. -/
theorem post4_sub : (post4 : List (HloOp τ sig (Elt F))).Forall fun op => op.bufs ⊆ StableHlo.tcRefs τ sig :=
  ⟨StableHlo.unary_bufs_sub .., StableHlo.unary_bufs_sub ..⟩

/-- None of them makes a buffer. -/
theorem post4_fresh : (post4 : List (HloOp τ sig (Elt F))).Forall fun op => op.fresh = ∅ :=
  StableHlo.forall_fresh_of_map rfl

/-- What they write, in order. -/
abbrev post4_W : List (Ref sig .tc) := [main_v20, main_v21]

/-- They write nothing else. -/
theorem post4_writes : (post4 : List (HloOp τ sig (Elt F))).Forall fun op => op.writes ⊆ (post4_W.map (Proc.devRef (τ := τ) .tc)).toFinset :=
  StableHlo.forall_writes_sub_of_map rfl

/-- A buffer that they do not write keeps its contents. -/
theorem post4_keep (V : Valuation τ sig (Elt F)) (r : Ref sig .tc) (h : r ∉ post4_W) :
    after post4 V (Proc.devRef .tc r) = V (Proc.devRef .tc r) :=
  after_of_writes_sub post4 V post4_writes h

/-- A stretch of the operations after the loop, in order. -/
abbrev post5 : List (HloOp τ sig (Elt F)) :=
  [ StableHlo.TRef.nullary (.of main_call4_c : StableHlo.TRef sig ⟨S_, .i32⟩) (constantI S_ 32 0#32),
    StableHlo.TRef.unary (.of main_call4_c : StableHlo.TRef sig ⟨S_, .i32⟩) (.of main_call4_v0 : StableHlo.TRef sig ⟨S16x8192x3, .i32⟩) (broadcastInDim S16x8192x3 ![] bcast_S_S16x8192x3),
    StableHlo.TRef.binary (.of main_v21 : StableHlo.TRef sig ⟨S16x8192x3, .i32⟩) (.of main_call4_v0 : StableHlo.TRef sig ⟨S16x8192x3, .i32⟩) (.of main_call4_v1 : StableHlo.TRef sig ⟨S16x8192x3, .i1⟩) (cmpi .slt),
    StableHlo.TRef.nullary (.of main_call4_c_0 : StableHlo.TRef sig ⟨S_, .i32⟩) (constantI S_ 32 512#32),
    StableHlo.TRef.unary (.of main_call4_c_0 : StableHlo.TRef sig ⟨S_, .i32⟩) (.of main_call4_v2 : StableHlo.TRef sig ⟨S16x8192x3, .i32⟩) (broadcastInDim S16x8192x3 ![] bcast_S_S16x8192x3),
    StableHlo.TRef.binary (.of main_v21 : StableHlo.TRef sig ⟨S16x8192x3, .i32⟩) (.of main_call4_v2 : StableHlo.TRef sig ⟨S16x8192x3, .i32⟩) (.of main_call4_v3 : StableHlo.TRef sig ⟨S16x8192x3, .i32⟩) addi,
    StableHlo.TRef.ternary (.of main_call4_v1 : StableHlo.TRef sig ⟨S16x8192x3, .i1⟩) (.of main_call4_v3 : StableHlo.TRef sig ⟨S16x8192x3, .i32⟩) (.of main_v21 : StableHlo.TRef sig ⟨S16x8192x3, .i32⟩) (.of main_call4_v4 : StableHlo.TRef sig ⟨S16x8192x3, .i32⟩) select,
    StableHlo.TRef.reshape (.of main_call4_v4 : StableHlo.TRef sig ⟨S16x8192x3, .i32⟩) (.of main_call4_v5 : StableHlo.TRef sig ⟨S16x8192x3x1, .i32⟩) (rfl : (.i32 : EltTy) = .i32) shapeCasts_S16x8192x3_S16x8192x3x1,
    StableHlo.TRef.binary (.of main_v5 : StableHlo.TRef sig ⟨S16x512x3, .f32⟩) (.of main_call4_v5 : StableHlo.TRef sig ⟨S16x8192x3x1, .i32⟩) (.of main_v22 : StableHlo.TRef sig ⟨S16x8192x3, .f32⟩) (fun x i => Host.gather gather_S16x512x3_S16x8192x3x1_S16x8192x3_n_1_02_02_1_3_111 x i) ]

/-- They touch host buffers only. -/
theorem post5_sub : (post5 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.binary_bufs_sub ..⟩

/-- None of them makes a buffer. -/
theorem post5_fresh : (post5 : List (HloOp τ sig (Elt F))).Forall fun op => op.fresh = ∅ :=
  StableHlo.forall_fresh_of_map rfl

/-- What they write, in order. -/
abbrev post5_W : List (Ref sig .tc) := [main_call4_c, main_call4_v0, main_call4_v1, main_call4_c_0, main_call4_v2, main_call4_v3, main_call4_v4, main_call4_v5, main_v22]

/-- They write nothing else. -/
theorem post5_writes : (post5 : List (HloOp τ sig (Elt F))).Forall fun op => op.writes ⊆ (post5_W.map (Proc.devRef (τ := τ) .tc)).toFinset :=
  StableHlo.forall_writes_sub_of_map rfl

/-- A buffer that they do not write keeps its contents. -/
theorem post5_keep (V : Valuation τ sig (Elt F)) (r : Ref sig .tc) (h : r ∉ post5_W) :
    after post5 V (Proc.devRef .tc r) = V (Proc.devRef .tc r) :=
  after_of_writes_sub post5 V post5_writes h

/-- A stretch of the operations after the loop, in order. -/
abbrev post6 : List (HloOp τ sig (Elt F)) :=
  [ StableHlo.binary main_arg0 main_v22 main_v23 (subf : (⟨S16x8192x3, .f32⟩ : BufTy).Contents (Elt F) → (⟨S16x8192x3, .f32⟩ : BufTy).Contents (Elt F) → (⟨S16x8192x3, .f32⟩ : BufTy).Contents (Elt F)) ]

/-- They touch host buffers only. -/
theorem post6_sub : (post6 : List (HloOp τ sig (Elt F))).Forall fun op => op.bufs ⊆ StableHlo.tcRefs τ sig :=
  StableHlo.binary_bufs_sub ..

/-- None of them makes a buffer. -/
theorem post6_fresh : (post6 : List (HloOp τ sig (Elt F))).Forall fun op => op.fresh = ∅ :=
  StableHlo.forall_fresh_of_map rfl

/-- What they write, in order. -/
abbrev post6_W : List (Ref sig .tc) := [main_v23]

/-- They write nothing else. -/
theorem post6_writes : (post6 : List (HloOp τ sig (Elt F))).Forall fun op => op.writes ⊆ (post6_W.map (Proc.devRef (τ := τ) .tc)).toFinset :=
  StableHlo.forall_writes_sub_of_map rfl

/-- A buffer that they do not write keeps its contents. -/
theorem post6_keep (V : Valuation τ sig (Elt F)) (r : Ref sig .tc) (h : r ∉ post6_W) :
    after post6 V (Proc.devRef .tc r) = V (Proc.devRef .tc r) :=
  after_of_writes_sub post6 V post6_writes h

/-- A stretch of the operations after the loop, in order. -/
abbrev post7 : List (HloOp τ sig (Elt F)) :=
  [ StableHlo.TRef.binary (.of main_v23 : StableHlo.TRef sig ⟨S16x8192x3, .f32⟩) (.of main_v23 : StableHlo.TRef sig ⟨S16x8192x3, .f32⟩) (.of main_call5_v0 : StableHlo.TRef sig ⟨S16x8192x3, .f32⟩) mulf,
    StableHlo.TRef.nullary (.of main_call5_cst : StableHlo.TRef sig ⟨S_, .f32⟩) (constant S_ .f32 0x00000000#32),
    StableHlo.TRef.binary (.of main_call5_v0 : StableHlo.TRef sig ⟨S16x8192x3, .f32⟩) (.of main_call5_cst : StableHlo.TRef sig ⟨S_, .f32⟩) (.of main_call5_v1 : StableHlo.TRef sig ⟨S16x8192, .f32⟩) (fun x v => Host.reduceAdd x v reducesTo_S16x8192x3_S16x8192_d2 h_S_),
    StableHlo.TRef.unary (.of main_call5_v1 : StableHlo.TRef sig ⟨S16x8192, .f32⟩) (.of main_call5_v2 : StableHlo.TRef sig ⟨S16x8192x1, .f32⟩) (broadcastInDim S16x8192x1 ![0, 1] bcast_S16x8192_S16x8192x1_0_1),
    StableHlo.TRef.unary (.of main_call5_v2 : StableHlo.TRef sig ⟨S16x8192x1, .f32⟩) (.of main_v24 : StableHlo.TRef sig ⟨S16x8192x1, .f32⟩) Host.sqrt ]

/-- They touch host buffers only. -/
theorem post7_sub : (post7 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.unary_bufs_sub ..⟩

/-- None of them makes a buffer. -/
theorem post7_fresh : (post7 : List (HloOp τ sig (Elt F))).Forall fun op => op.fresh = ∅ :=
  StableHlo.forall_fresh_of_map rfl

/-- What they write, in order. -/
abbrev post7_W : List (Ref sig .tc) := [main_call5_v0, main_call5_cst, main_call5_v1, main_call5_v2, main_v24]

/-- They write nothing else. -/
theorem post7_writes : (post7 : List (HloOp τ sig (Elt F))).Forall fun op => op.writes ⊆ (post7_W.map (Proc.devRef (τ := τ) .tc)).toFinset :=
  StableHlo.forall_writes_sub_of_map rfl

/-- A buffer that they do not write keeps its contents. -/
theorem post7_keep (V : Valuation τ sig (Elt F)) (r : Ref sig .tc) (h : r ∉ post7_W) :
    after post7 V (Proc.devRef .tc r) = V (Proc.devRef .tc r) :=
  after_of_writes_sub post7 V post7_writes h

/-- A stretch of the operations after the loop, in order. -/
abbrev post8 : List (HloOp τ sig (Elt F)) :=
  [ StableHlo.nullary main_cst_5 (constant S_ .f32 0x322BCC77#32),
    StableHlo.unary main_cst_5 main_v25 (broadcastInDim S16x8192x1 ![] bcast_S_S16x8192x1 : (⟨S_, .f32⟩ : BufTy).Contents (Elt F) → (⟨S16x8192x1, .f32⟩ : BufTy).Contents (Elt F)),
    StableHlo.binary main_v24 main_v25 main_v26 (maximumf : (⟨S16x8192x1, .f32⟩ : BufTy).Contents (Elt F) → (⟨S16x8192x1, .f32⟩ : BufTy).Contents (Elt F) → (⟨S16x8192x1, .f32⟩ : BufTy).Contents (Elt F)),
    StableHlo.unary main_v26 main_v27 (broadcastInDim S16x8192x3 ![0, 1, 2] bcast_S16x8192x1_S16x8192x3_0_1_2 : (⟨S16x8192x1, .f32⟩ : BufTy).Contents (Elt F) → (⟨S16x8192x3, .f32⟩ : BufTy).Contents (Elt F)),
    StableHlo.binary main_v23 main_v27 main_v28 (Host.divf : (⟨S16x8192x3, .f32⟩ : BufTy).Contents (Elt F) → (⟨S16x8192x3, .f32⟩ : BufTy).Contents (Elt F) → (⟨S16x8192x3, .f32⟩ : BufTy).Contents (Elt F)),
    StableHlo.nary ![main_v28, main_v24, main_arg1] main_v29 (fun u => (concatenate S16x8192x68 2 [⟨S16x8192x3, (u 0 : (⟨S16x8192x3, .f32⟩ : BufTy).Contents (Elt F))⟩, ⟨S16x8192x1, (u 1 : (⟨S16x8192x1, .f32⟩ : BufTy).Contents (Elt F))⟩, ⟨S16x8192x64, (u 2 : (⟨S16x8192x64, .f32⟩ : BufTy).Contents (Elt F))⟩] concatenates_S16x8192x3_S16x8192x1_S16x8192x64_S16x8192x68_d2 : (⟨S16x8192x68, .f32⟩ : BufTy).Contents (Elt F))) ]

/-- They touch host buffers only. -/
theorem post8_sub : (post8 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.binary_bufs_sub .., StableHlo.nary_bufs_sub ..⟩

/-- None of them makes a buffer. -/
theorem post8_fresh : (post8 : List (HloOp τ sig (Elt F))).Forall fun op => op.fresh = ∅ :=
  StableHlo.forall_fresh_of_map rfl

/-- What they write, in order. -/
abbrev post8_W : List (Ref sig .tc) := [main_cst_5, main_v25, main_v26, main_v27, main_v28, main_v29]

/-- They write nothing else. -/
theorem post8_writes : (post8 : List (HloOp τ sig (Elt F))).Forall fun op => op.writes ⊆ (post8_W.map (Proc.devRef (τ := τ) .tc)).toFinset :=
  StableHlo.forall_writes_sub_of_map rfl

/-- A buffer that they do not write keeps its contents. -/
theorem post8_keep (V : Valuation τ sig (Elt F)) (r : Ref sig .tc) (h : r ∉ post8_W) :
    after post8 V (Proc.devRef .tc r) = V (Proc.devRef .tc r) :=
  after_of_writes_sub post8 V post8_writes h

/-- The program is its stretches and its loop, in order. -/
theorem main_chain (c : Dev nD) : main (F := F) c = (Pipeline.chain
  [ StableHlo.seq pre0,
    HostLoop.enter 0,
    StableHlo.seq post0,
    StableHlo.seq post1,
    StableHlo.seq post2,
    StableHlo.seq post3,
    StableHlo.seq post4,
    StableHlo.seq post5,
    StableHlo.seq post6,
    StableHlo.seq post7,
    StableHlo.seq post8 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons]
  chain_rfl

/-- The loop's body is its stretches, in order. -/
theorem body_chain : main_while0_body (F := F) = (Pipeline.chain
  [ StableHlo.seq body0,
    StableHlo.seq body1,
    StableHlo.seq body2,
    StableHlo.seq body3,
    StableHlo.seq body4 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons]
  chain_rfl

/-- The stretches in a list. -/
abbrev preI : List (List (HloOp τ sig (Elt F))) := [pre0]
theorem preI_plain : Plain (preI (F := F)) := .cons pre0_sub (hf := List.forall_iff_forall_mem.mp pre0_fresh) (.nil)

/-- The stretches in a list. -/
abbrev bodyI : List (List (HloOp τ sig (Elt F))) := [body0, body1, body2, body3, body4]
theorem bodyI_plain : Plain (bodyI (F := F)) := .cons body0_sub (hf := List.forall_iff_forall_mem.mp body0_fresh) (.cons body1_sub (hf := List.forall_iff_forall_mem.mp body1_fresh) (.cons body2_sub (hf := List.forall_iff_forall_mem.mp body2_fresh) (.cons body3_sub (hf := List.forall_iff_forall_mem.mp body3_fresh) (.cons body4_sub (hf := List.forall_iff_forall_mem.mp body4_fresh) (.nil)))))

/-- The stretches in a list. -/
abbrev postI : List (List (HloOp τ sig (Elt F))) := [post0, post1, post2, post3, post4, post5, post6, post7, post8]
theorem postI_plain : Plain (postI (F := F)) := .cons post0_sub (hf := List.forall_iff_forall_mem.mp post0_fresh) (.cons post1_sub (hf := List.forall_iff_forall_mem.mp post1_fresh) (.cons post2_sub (hf := List.forall_iff_forall_mem.mp post2_fresh) (.cons post3_sub (hf := List.forall_iff_forall_mem.mp post3_fresh) (.cons post4_sub (hf := List.forall_iff_forall_mem.mp post4_fresh) (.cons post5_sub (hf := List.forall_iff_forall_mem.mp post5_fresh) (.cons post6_sub (hf := List.forall_iff_forall_mem.mp post6_fresh) (.cons post7_sub (hf := List.forall_iff_forall_mem.mp post7_fresh) (.cons post8_sub (hf := List.forall_iff_forall_mem.mp post8_fresh) (.nil)))))))))

/-- The loop's test: the bound, and the trip counter compared with it. -/
abbrev condOps : List (HloOp τ sig (Elt F)) :=
  [ StableHlo.nullary main_while0c_c_10 (constantI S_ 32 511#32),
    StableHlo.binary main_v2_1 main_while0c_c_10 main_while0c_v30 (cmpi .slt) ]

/-- What the test writes. -/
abbrev condOps_W : List (Ref sig .tc) := [main_while0c_c_10, main_while0c_v30]

/-- A buffer that the test does not write keeps its contents. -/
theorem condOps_keep (V : Valuation τ sig (Elt F)) (r : Ref sig .tc) (h : r ∉ condOps_W) :
    after condOps V (Proc.devRef .tc r) = V (Proc.devRef .tc r) :=
  after_of_writes_sub condOps V (StableHlo.forall_writes_sub_of_map rfl) h

variable (m : (ℓ : Loc nD τ sig) → Buf (Elt F) ℓ) (ρ : Dev nD → PrngReg)

/-- Every buffer's contents before the `k`-th test of the loop. -/
abbrev atK (k : ℕ) (c : Dev nD) : Valuation τ sig (Elt F) := atTrip condOps bodyI (entryContents preI m) k c

set_option maxRecDepth 100000 in
/-- The last stretch of the body leaves the trip counter one step on. -/
theorem counter_step (X : Valuation τ sig (Elt F)) :
    after body4 X (Proc.devRef .tc main_v2_1) = addi (X (Proc.devRef .tc main_v2_1)) (constantI S_ 32 1#32) := by
  after_results
  rfl

/-- The trip counter is zero at the loop's entry. -/
theorem counter_entry (c : Dev nD) : entryContents preI m c (Proc.devRef .tc main_v2_1) = fun _ => (0#32 : BitVec 32) := by
  simp only [entryContents, afterL_cons, afterL_nil]
  after_reads_simp
  rfl

/-- Before the `k`-th test the trip counter is `k`. -/
theorem counter (c : Dev nD) : ∀ k, atK m k c (Proc.devRef .tc main_v2_1) = fun _ => Scf.iv 0#32 1#32 k
  | 0 => by rw [show atK m 0 c = entryContents preI m c from rfl, counter_entry, Scf.iv_zero]
  | k + 1 => by
    rw [show atK m (k + 1) c = afterL bodyI (after condOps (atK m k c)) from rfl]
    simp only [afterL_cons, afterL_nil]
    rw [counter_step, body3_keep _ _ (by decide), body2_keep _ _ (by decide), body1_keep _ _ (by decide),
      body0_keep _ _ (by decide), condOps_keep _ _ (by decide), counter c k, Scf.iv_succ]
    rfl

set_option backward.isDefEq.respectTransparency.types false in
/-- The loop's test holds before the `k`-th trip exactly when `k` is below 511. -/
theorem cond_spec : CondSpec (pcfgs (F := F)) defs₀ loops (main_while0_cond (F := F)) condOps bodyI (entryContents preI m) 511 := by
  intro k hk c bd
  have hctr := counter m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v2_1 HostLoop.idx0)
        (HloOp.result _ (atK m k c) main_while0c_c_10 HostLoop.idx0) = 1#1) (k < 511)
    rw [nullary_result_ne _ _ _ _ (by decide), nullary_result, hctr]
    exact Scf.cmpi_slt_iv_ub_iff (lb := 0#32) (ub := 511#32) (st := 1#32) (by decide) (show k ≤ Scf.trips 0#32 511#32 1#32 from hk)
  isplitl [Hb]; · iexact Hb
  rw [after_cons, after_cons, after_nil]; iexact Hh

set_option maxRecDepth 100000 in
/-- From any memory with zero counters every weakly fair execution ends with every buffer at the contents that the
    stretches, the 511 trips and the stretches after them make. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 511 m c (Proc.devRef .tc b)) :=
  run_loop (pcfgs (F := F)) defs₀ loops main 0 main_while0_cond main_while0_body rfl preI bodyI postI condOps preI_plain bodyI_plain postI_plain
    (fun c => by rw [main_chain]; rfl) (by rw [body_chain]; rfl) 511 m ρ (cond_spec m)

end Cert.ReferenceIdeal.Hand
-- ==== Proof.RefFrame.lean ====
/- The reference leaves its two arguments as they were and every semaphore counter at zero. -/
module

public import proofs.«01_k».proof.Proof.RefRun
public import Idealize.ShloMosaic.Lib.Quiescent

@[expose] public section

noncomputable section

namespace Cert.ReferenceIdeal.Hand

open Cert.ReferenceIdeal Cert.ReferenceIdeal.Gen
open Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-- A buffer that neither the test nor the body writes is the same before every test. -/
theorem atK_keep (c : Dev nD) (r : Ref sig .tc) (hc : r ∉ condOps_W) (h0 : r ∉ body0_W) (h1 : r ∉ body1_W) (h2 : r ∉ body2_W)
    (h3 : r ∉ body3_W) (h4 : r ∉ body4_W) : ∀ k, atK m k c (Proc.devRef .tc r) = entryContents preI m c (Proc.devRef .tc r)
  | 0 => rfl
  | k + 1 => by
    rw [show atK m (k + 1) c = afterL bodyI (after condOps (atK m k c)) from rfl]
    simp only [afterL_cons, afterL_nil]
    rw [body4_keep _ _ h4, body3_keep _ _ h3, body2_keep _ _ h2, body1_keep _ _ h1, body0_keep _ _ h0, condOps_keep _ _ hc,
      atK_keep c r hc h0 h1 h2 h3 h4 k]
    rfl

/-- A buffer that no operation after the loop writes keeps its contents there. -/
theorem post_keep (V : Valuation τ sig (Elt F)) (r : Ref sig .tc) (h : ∀ W ∈ [post0_W, post1_W, post2_W, post3_W, post4_W, post5_W, post6_W, post7_W, post8_W], r ∉ W) :
    afterL postI V (Proc.devRef .tc r) = V (Proc.devRef .tc r) := by
  simp only [postI, afterL_cons, afterL_nil]
  rw [post8_keep _ _ (h _ (by simp)), post7_keep _ _ (h _ (by simp)), post6_keep _ _ (h _ (by simp)), post5_keep _ _ (h _ (by simp)),
    post4_keep _ _ (h _ (by simp)), post3_keep _ _ (h _ (by simp)), post2_keep _ _ (h _ (by simp)), post1_keep _ _ (h _ (by simp)),
    post0_keep _ _ (h _ (by simp))]

/-- The first argument before the loop's last test. -/
theorem atK_arg0 (c : Dev nD) (k : ℕ) : atK m k c (Proc.devRef .tc main_arg0) = m ((c.tc : Thread nD τ).loc main_arg0) :=
  (atK_keep m c main_arg0 (by decide) (by decide) (by decide) (by decide) (by decide) (by decide) k).trans
    (pre0_keep (launchContents m c) main_arg0 (by decide))

/-- The second argument before the loop's last test. -/
theorem atK_arg1 (c : Dev nD) (k : ℕ) : atK m k c (Proc.devRef .tc main_arg1) = m ((c.tc : Thread nD τ).loc main_arg1) :=
  (atK_keep m c main_arg1 (by decide) (by decide) (by decide) (by decide) (by decide) (by decide) k).trans
    (pre0_keep (launchContents m c) main_arg1 (by decide))

/-- The first argument at the end. -/
theorem final_arg0 (c : Dev nD) : finalContents condOps preI bodyI postI 511 m c (Proc.devRef .tc main_arg0) = m ((c.tc : Thread nD τ).loc main_arg0) :=
  (post_keep _ main_arg0 (by decide)).trans ((condOps_keep _ main_arg0 (by decide)).trans (atK_arg0 m c 511))

/-- The second argument at the end. -/
theorem final_arg1 (c : Dev nD) : finalContents condOps preI bodyI postI 511 m c (Proc.devRef .tc main_arg1) = m ((c.tc : Thread nD τ).loc main_arg1) :=
  (post_keep _ main_arg1 (by decide)).trans ((condOps_keep _ main_arg1 (by decide)).trans (atK_arg1 m c 511))

/-- The reference's frame: its arguments end as they began, and every counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => ⟨(h c main_arg0 rfl).trans (final_arg0 m c), (h c main_arg1 rfl).trans (final_arg1 m c)⟩,
    sem_eq_zero_of_no_sems (by decide) r.2⟩) (run_fold m ρ)

end Cert.ReferenceIdeal.Hand
-- ==== Proof.TripShape.lean ====
/-
  The sampling loop's trip as one uniform computation: the same chunk step at each of the 64 chunks of 128 lanes.
-/
module

public import proofs.«01_k».proof.Proof.LoopIdeal

@[expose] public section

set_option maxRecDepth 65536
set_option maxHeartbeats 4000000

noncomputable section

namespace Cert.KernelIdeal.Sampling

open Cert.KernelIdeal Cert.KernelIdeal.Gen
open Idealize.ShloMosaic Idealize.ShloMosaic.TcCoe Idealize.ShloMosaic.Tactic

variable {F : FTy → Type} [FloatOps F]

/-- A chunk of 128 lanes lies inside the array. -/
theorem tile_inb (k : ℕ) (h : k < 64) : ∀ a, (![0, 128 * k] : Fin 2 → Nat) a + S16x128.size a ≤ S16x8192.size a := by
  intro a
  match a with
  | 0 => exact Nat.le_refl 16
  | 1 => show 128 * k + 128 ≤ 8192; omega

/-- The rectangle of chunk `k`. -/
abbrev tile (k : ℕ) (h : k < 64) : Rect S16x8192 := Rect.unit (s := S16x8192) ![0, 128 * k] S16x128.size (tile_inb k h)

section
variable (arg0 arg1 arg2 arg6 : Memref sig .tc .vmem S16x8192 .f32) (v5 : IVec S16x128 32) (cst : F .f32)
  (X0 : BufTy.Contents (Elt F) arg0.view.ty) (X1 : BufTy.Contents (Elt F) arg1.view.ty)
  (X2 : BufTy.Contents (Elt F) arg2.view.ty) (acc : Carry F) (f : BufTy.Contents (Elt F) arg6.view.ty)

/-- The difference of one coordinate's chunk from the last chosen point's coordinate. -/
def delta (arg : Memref sig .tc .vmem S16x8192 .f32) (X : BufTy.Contents (Elt F) arg.view.ty) (p : FVec F S16x1 .f32)
    (k : ℕ) (h : k < 64) : FVec F S16x128 .f32 :=
  subf (shapeCast S16x128 (View.readAt (Elt F) arg.view (tile k h).toLoadRect X) shapeCasts_S16x128_S16x128)
    (broadcastTo S16x128 p broadcasts_S16x1_S16x128)

/-- The running distances of chunk `k` after the trip. -/
def fresh (k : ℕ) (h : k < 64) : FVec F S16x128 .f32 :=
  minimumf (View.readAt (Elt F) arg6.view (tile k h).toLoadRect f)
    (addf (addf (mulf (delta arg0 X0 acc.1 k h) (delta arg0 X0 acc.1 k h))
        (mulf (delta arg1 X1 acc.2.1 k h) (delta arg1 X1 acc.2.1 k h)))
      (mulf (delta arg2 X2 acc.2.2.1 k h) (delta arg2 X2 acc.2.2.1 k h)))

/-- The pieces the first `n` chunks store into the running distances, last first. -/
def pieces : (n : ℕ) → n ≤ 64 → List (View.Piece (Elt F) S16x8192 .f32)
  | 0, _ => []
  | n + 1, h => ⟨tile n h, shapeCast S16x128 (fresh arg0 arg1 arg2 arg6 X0 X1 X2 acc f n h) shapeCasts_S16x128_S16x128⟩
      :: pieces n (Nat.le_of_succ_le h)

/-- The maximum of the chunks `j, j + 4, …` (`n` of them), lane by lane. -/
def top (j : ℕ) (hj : j < 4) : (n : ℕ) → n ≤ 16 → FVec F S16x128 .f32
  | 0, _ => broadcast S16x128 cst
  | n + 1, h => maximumf (top j hj n (Nat.le_of_succ_le h)) (fresh arg0 arg1 arg2 arg6 X0 X1 X2 acc f (4 * n + j) (by omega))

/-- The greatest running distance of each batch. -/
def peak : FVec F S16x1 .f32 :=
  shapeCast S16x1 (multiReduction .maximumf [1] S16
    (maximumf
      (maximumf (top arg0 arg1 arg2 arg6 cst X0 X1 X2 acc f 0 (by decide) 16 (by decide)) (top arg0 arg1 arg2 arg6 cst X0 X1 X2 acc f 1 (by decide) 16 (by decide)))
      (maximumf (top arg0 arg1 arg2 arg6 cst X0 X1 X2 acc f 2 (by decide) 16 (by decide)) (top arg0 arg1 arg2 arg6 cst X0 X1 X2 acc f 3 (by decide) 16 (by decide))))
    0xFF800000#32 reduces_S16x128_S16 (.inl rfl) rfl) shapeCasts_S16_S16x1

variable (m : FVec F S16x1 .f32) (D : List (View.Piece (Elt F) S16x8192 .f32))

/-- Chunk `k`'s candidate index: the lane's own where the running distance is the greatest, 8192 elsewhere. -/
def cand (k : ℕ) (h : k < 64) : IVec S16x128 32 :=
  select (cmpf .oeq (arg6.view.readCov D (tile k h).toLoadRect) (broadcastTo S16x128 m broadcasts_S16x1_S16x128))
    (addi v5 (broadcast S16x128 (BitVec.ofNat 32 (128 * k)))) (broadcast S16x128 8192#32)

/-- The least candidate of the chunks `j, j + 4, …` (`n` of them), lane by lane. -/
def least (j : ℕ) (hj : j < 4) : (n : ℕ) → n ≤ 16 → IVec S16x128 32
  | 0, _ => broadcast S16x128 8192#32
  | n + 1, h =>
    select (cmpi .slt (cand arg6 v5 m D (4 * n + j) (by omega)) (least j hj n (Nat.le_of_succ_le h)))
      (cand arg6 v5 m D (4 * n + j) (by omega)) (least j hj n (Nat.le_of_succ_le h))

/-- The coordinate carried beside `least`. -/
def carried (arg : Memref sig .tc .vmem S16x8192 .f32) (X : BufTy.Contents (Elt F) arg.view.ty) (j : ℕ) (hj : j < 4) :
    (n : ℕ) → n ≤ 16 → FVec F S16x128 .f32
  | 0, _ => broadcast S16x128 (Scalar.ofBits .f32 0x00000000#32)
  | n + 1, h =>
    select (cmpi .slt (cand arg6 v5 m D (4 * n + j) (by omega)) (least arg6 v5 m D j hj n (Nat.le_of_succ_le h)))
      (shapeCast S16x128 (View.readAt (Elt F) arg.view (tile (4 * n + j) (by omega)).toLoadRect X) shapeCasts_S16x128_S16x128)
      (carried arg X j hj n (Nat.le_of_succ_le h))

/-- The least candidate over the first `j + 1` of the four accumulators. -/
def leastOf : (j : ℕ) → j < 4 → IVec S16x128 32
  | 0, h => least arg6 v5 m D 0 h 16 (by decide)
  | j + 1, h =>
    select (cmpi .slt (least arg6 v5 m D (j + 1) h 16 (by decide)) (leastOf j (Nat.lt_of_succ_lt h)))
      (least arg6 v5 m D (j + 1) h 16 (by decide)) (leastOf j (Nat.lt_of_succ_lt h))

/-- The coordinate carried beside `leastOf`. -/
def carriedOf (arg : Memref sig .tc .vmem S16x8192 .f32) (X : BufTy.Contents (Elt F) arg.view.ty) :
    (j : ℕ) → j < 4 → FVec F S16x128 .f32
  | 0, h => carried arg6 v5 m D arg X 0 h 16 (by decide)
  | j + 1, h =>
    select (cmpi .slt (least arg6 v5 m D (j + 1) h 16 (by decide)) (leastOf arg6 v5 m D j (Nat.lt_of_succ_lt h)))
      (carried arg6 v5 m D arg X (j + 1) h 16 (by decide)) (carriedOf arg X j (Nat.lt_of_succ_lt h))

/-- The lanes holding the least candidate of their batch. -/
def winner : IVec S16x128 1 :=
  cmpi .eq (leastOf arg6 v5 m D 3 (by decide))
    (broadcastTo S16x128 (shapeCast S16x1 (multiReductionI .minsi [1] S16 (leastOf arg6 v5 m D 3 (by decide)) 2147483647#32
      reduces_S16x128_S16 rfl) shapeCasts_S16_S16x1) broadcasts_S16x1_S16x128)

/-- One coordinate of the next chosen point. -/
def chosen (arg : Memref sig .tc .vmem S16x8192 .f32) (X : BufTy.Contents (Elt F) arg.view.ty) : FVec F S16x1 .f32 :=
  shapeCast S16x1 (multiReduction .maximumf [1] S16
    (select (winner arg6 v5 m D) (carriedOf arg6 v5 m D arg X 3 (by decide)) (broadcast S16x128 cst))
    0xFF800000#32 reduces_S16x128_S16 (.inl rfl) rfl) shapeCasts_S16_S16x1
end

variable (𝒱 : Variants) (c : Dev nD) (bd : Option 𝒱.V) (arg0 : Memref sig .tc .vmem S16x8192 .f32) (harg0 : arg0.IsWhole) (arg1 : Memref sig .tc .vmem S16x8192 .f32) (harg1 : arg1.IsWhole) (arg2 : Memref sig .tc .vmem S16x8192 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S16x512 .f32) (harg5 : arg5.IsWhole) (arg6 : Memref sig .tc .vmem S16x8192 .f32) (harg6 : arg6.IsWhole) (v5 : IVec S16x128 32) (cst_12 : F .f32) (X0 : BufTy.Contents (Elt F) arg0.view.ty) (X1 : BufTy.Contents (Elt F) arg1.view.ty) (X2 : BufTy.Contents (Elt F) arg2.view.ty)

/-- The pieces a trip stores are the 64 chunks' new running distances. -/
theorem trip_pieces (k : Fin k0_t1_loop.trips) (acc : Carry F) (f : BufTy.Contents (Elt F) arg6.view.ty) :
    (trip 𝒱 c bd arg0 harg0 arg1 harg1 arg2 harg2 arg3 harg3 arg4 harg4 arg5 harg5 arg6 harg6 v5 cst_12 X0 X1 X2 k).2.1 acc f
      = pieces arg0 arg1 arg2 arg6 X0 X1 X2 acc f 64 (by decide) := by
  sl_kernel_rfl

/-- The table of one coordinate with the entry of trip `k` set. -/
def mark (k : Fin k0_t1_loop.trips) (l : FVec F S16x1 .f32) (t : FVec F S16x512 .f32) : FVec F S16x512 .f32 :=
  select (cmpi .eq (iota .tc S16x512 32 [1] iota_S16x512_d1_w32) (broadcast S16x512 (Scf.iv 1#32 1#32 k)))
    (broadcastTo S16x512 (shapeCast S16x1 l shapeCasts_S16x1_S16x1) broadcasts_S16x1_S16x512) t

/-- One coordinate of the point a trip chooses. -/
abbrev next (acc : Carry F) (f : BufTy.Contents (Elt F) arg6.view.ty) (arg : Memref sig .tc .vmem S16x8192 .f32)
    (X : BufTy.Contents (Elt F) arg.view.ty) : FVec F S16x1 .f32 :=
  chosen arg6 v5 cst_12 (peak arg0 arg1 arg2 arg6 cst_12 X0 X1 X2 acc f) (pieces arg0 arg1 arg2 arg6 X0 X1 X2 acc f 64 (by decide)) arg X

/-- What a trip yields: the chosen point, and the three tables with its coordinates entered. -/
theorem trip_yield (k : Fin k0_t1_loop.trips) (acc : Carry F) (f : BufTy.Contents (Elt F) arg6.view.ty) :
    (trip 𝒱 c bd arg0 harg0 arg1 harg1 arg2 harg2 arg3 harg3 arg4 harg4 arg5 harg5 arg6 harg6 v5 cst_12 X0 X1 X2 k).1 acc f
      = (next arg0 arg1 arg2 arg6 v5 cst_12 X0 X1 X2 acc f arg0 X0, next arg0 arg1 arg2 arg6 v5 cst_12 X0 X1 X2 acc f arg1 X1,
          next arg0 arg1 arg2 arg6 v5 cst_12 X0 X1 X2 acc f arg2 X2,
          mark k (next arg0 arg1 arg2 arg6 v5 cst_12 X0 X1 X2 acc f arg0 X0) acc.2.2.2.1,
          mark k (next arg0 arg1 arg2 arg6 v5 cst_12 X0 X1 X2 acc f arg1 X1) acc.2.2.2.2.1,
          mark k (next arg0 arg1 arg2 arg6 v5 cst_12 X0 X1 X2 acc f arg2 X2) acc.2.2.2.2.2) := by
  sl_kernel_rfl

end Cert.KernelIdeal.Sampling
-- ==== Proof.Farthest.lean ====
/-
  Farthest point sampling as mathematics: from point 0, each step lowers every point's running distance by its squared
  distance from the last chosen point and chooses the first point whose running distance is the greatest.
-/
module

public import Idealize.ShloMosaic.Lib.ValueIdx

@[expose] public section

noncomputable section

namespace Cert.Farthest

open Idealize.ShloMosaic

/-- `n` is the first index with property `p`. -/
def IsFirst {N : ℕ} (p : Fin N → Prop) (n : Fin N) : Prop := p n ∧ ∀ m, m < n → ¬ p m

/-- A property some index has has a first index. -/
theorem exists_first {N : ℕ} (p : Fin N → Prop) (h : ∃ n, p n) : ∃ n, IsFirst p n := by
  classical
  obtain ⟨n, hn, hmin⟩ := WellFounded.has_min (r := fun a b : Fin N => a < b) (wellFounded_lt) {n | p n} h
  exact ⟨n, hn, fun m hm hp => hmin m hp hm⟩

/-- There is only one first index. -/
theorem IsFirst.unique {N : ℕ} {p : Fin N → Prop} {a b : Fin N} (ha : IsFirst p a) (hb : IsFirst p b) : a = b := by
  rcases lt_trichotomy a b with h | h | h
  · exact absurd ha.1 (hb.2 a h)
  · exact h
  · exact absurd hb.1 (ha.2 b h)

/-- A finite nonempty family of extended reals has a greatest member. -/
theorem exists_greatest {N : ℕ} (hN : 0 < N) (d : Fin N → EReal) : ∃ n, ∀ m, d m ≤ d n := by
  haveI : Nonempty (Fin N) := ⟨⟨0, hN⟩⟩
  obtain ⟨n, hn⟩ := Finite.exists_max d
  exact ⟨n, hn⟩

/-- … and a least one. -/
theorem exists_least {N : ℕ} (hN : 0 < N) (d : Fin N → EReal) : ∃ n, ∀ m, d n ≤ d m := by
  haveI : Nonempty (Fin N) := ⟨⟨0, hN⟩⟩
  obtain ⟨n, hn⟩ := Finite.exists_min d
  exact ⟨n, hn⟩

/-- The first index of the greatest value. -/
def firstMax (d : Fin 8192 → EReal) : Fin 8192 :=
  Classical.choose (exists_first (fun n => ∀ m, d m ≤ d n) (exists_greatest (by decide) d))

theorem firstMax_spec (d : Fin 8192 → EReal) : IsFirst (fun n => ∀ m, d m ≤ d n) (firstMax d) :=
  Classical.choose_spec (exists_first (fun n => ∀ m, d m ≤ d n) (exists_greatest (by decide) d))

/-- The first index of the least of 512 values. -/
def firstMin (d : Fin 512 → EReal) : Fin 512 :=
  Classical.choose (exists_first (fun n => ∀ m, d n ≤ d m) (exists_least (by decide) d))

theorem firstMin_spec (d : Fin 512 → EReal) : IsFirst (fun n => ∀ m, d n ≤ d m) (firstMin d) :=
  Classical.choose_spec (exists_first (fun n => ∀ m, d n ≤ d m) (exists_least (by decide) d))

/-- The squared distance of point `n` from the point `(a, b, c)`. -/
def sq (x y z : Fin 8192 → EReal) (a b c : EReal) (n : Fin 8192) : EReal :=
  (x n - a) * (x n - a) + (y n - b) * (y n - b) + (z n - c) * (z n - c)

/-- The running distances once lowered by the squared distances from the point `p`. -/
def lower (x y z : Fin 8192 → EReal) (d : Fin 8192 → EReal) (p : Fin 8192) (n : Fin 8192) : EReal :=
  min (d n) (sq x y z (x p) (y p) (z p) n)

/-- The running distances and the chosen point after `k` steps. -/
def run (x y z : Fin 8192 → EReal) : ℕ → (Fin 8192 → EReal) × Fin 8192
  | 0 => (fun _ => Ideal.ofBits .f32 0x501502F9#32, 0)
  | k + 1 => (lower x y z (run x y z k).1 (run x y z k).2, firstMax (lower x y z (run x y z k).1 (run x y z k).2))

end Cert.Farthest
-- ==== Proof.Tracks.lean ====
/-
  Choosing the least index by compare and select: a word and a value that go together, and how the selection of the
  lesser of two such pairs goes on.
-/
module

public import proofs.«01_k».proof.Proof.Farthest
public import Idealize.ShloMosaic.Lib.Pointwise
public import Idealize.ShloMosaic.Lib.WordArith

@[expose] public section

noncomputable section

namespace Cert.Farthest

open Idealize.ShloMosaic

/-- The word `w` is the least index of the set `S` (8192 when it is empty) and `p` the value of `x` there. -/
def Tracks (x : Fin 8192 → EReal) (S : ℕ → Prop) (w : BitVec 32) (p : EReal) : Prop :=
  ∃ n : ℕ, n ≤ 8192 ∧ w = BitVec.ofNat 32 n ∧ (∀ c, S c → n ≤ c) ∧ ∀ h : n < 8192, S n ∧ p = x ⟨n, h⟩

/-- The signed comparison of two small words is that of the numbers. -/
theorem slt_small {a b : ℕ} (ha : a ≤ 8192) (hb : b ≤ 8192) :
    IntOp.cmpi .slt (BitVec.ofNat 32 a) (BitVec.ofNat 32 b) = BitVec.ofBool (decide (a < b)) := by
  have h : ∀ n : ℕ, n ≤ 8192 → (BitVec.ofNat 32 n).toInt = n := fun n hn => by
    rw [BitVec.toInt_eq_toNat_of_lt (by rw [BitVec.toNat_ofNat]; omega), BitVec.toNat_ofNat]; omega
  show BitVec.ofBool (BitVec.slt _ _) = _
  rw [BitVec.slt_eq_decide, h a ha, h b hb]
  simp

/-- The equality comparison of two small words is that of the numbers. -/
theorem eq_small {a b : ℕ} (ha : a ≤ 8192) (hb : b ≤ 8192) :
    IntOp.cmpi .eq (BitVec.ofNat 32 a) (BitVec.ofNat 32 b) = BitVec.ofBool (decide (a = b)) := by
  show BitVec.ofBool (BitVec.ofNat 32 a == BitVec.ofNat 32 b) = _
  congr 1
  rw [Bool.eq_iff_iff, beq_iff_eq, decide_eq_true_iff]
  constructor
  · intro h
    have := congrArg BitVec.toNat h
    rw [BitVec.toNat_ofNat, BitVec.toNat_ofNat] at this
    omega
  · rintro rfl; rfl

/-- Selecting by a decided proposition. -/
theorem select_ofBool {α : Type} (p : Prop) [Decidable p] (a b : α) :
    Scalar.select (BitVec.ofBool (decide p)) a b = if p then a else b := by
  by_cases h : p <;> simp [h, Scalar.select]

/-- No index yet. -/
theorem Tracks.empty (x : Fin 8192 → EReal) (S : ℕ → Prop) (hS : ∀ c, ¬ S c) (p : EReal) : Tracks x S 8192#32 p :=
  ⟨8192, le_refl _, rfl, fun c h => absurd h (hS c), fun h => absurd h (by decide)⟩

/-- One index, if it has the property `q`. -/
theorem Tracks.single (x : Fin 8192 → EReal) (S : ℕ → Prop) (c : Fin 8192) (q : Prop) [Decidable q]
    (hS : ∀ n, S n ↔ n = c.val ∧ q) :
    Tracks x S (Scalar.select (BitVec.ofBool (decide q)) (BitVec.ofNat 32 c.val) 8192#32) (x c) := by
  rw [select_ofBool]
  by_cases h : q
  · rw [if_pos h]
    exact ⟨c.val, c.isLt.le, rfl, fun n hn => ((hS n).mp hn).1.ge, fun _ => ⟨(hS _).mpr ⟨rfl, h⟩, rfl⟩⟩
  · rw [if_neg h]
    exact Tracks.empty x S (fun n hn => h ((hS n).mp hn).2) _

/-- The lesser of two. -/
theorem Tracks.lesser {x : Fin 8192 → EReal} {S S' S'' : ℕ → Prop} {w w' : BitVec 32} {p p' : EReal}
    (h : Tracks x S w p) (h' : Tracks x S' w' p') (hS : ∀ n, S'' n ↔ S n ∨ S' n) :
    Tracks x S'' (Scalar.select (IntOp.cmpi .slt w' w) w' w) (Scalar.select (IntOp.cmpi .slt w' w) p' p) := by
  obtain ⟨n, hn, rfl, hmin, hp⟩ := h
  obtain ⟨n', hn', rfl, hmin', hp'⟩ := h'
  rw [slt_small hn' hn, select_ofBool, select_ofBool]
  by_cases hlt : n' < n
  · rw [if_pos hlt, if_pos hlt]
    refine ⟨n', hn', rfl, fun c hc => ?_, fun h => ⟨(hS _).mpr (.inr (hp' h).1), (hp' h).2⟩⟩
    rcases (hS c).mp hc with hc | hc
    · exact hlt.le.trans (hmin c hc)
    · exact hmin' c hc
  · rw [if_neg hlt, if_neg hlt]
    refine ⟨n, hn, rfl, fun c hc => ?_, fun h => ⟨(hS _).mpr (.inl (hp h).1), (hp h).2⟩⟩
    rcases (hS c).mp hc with hc | hc
    · exact hmin c hc
    · exact (not_lt.mp hlt).trans (hmin' c hc)

/-- A fold of the signed minimum over small words is the least of the numbers. -/
theorem fold_minsi_small {ι : Type} (s : Finset ι) (n : ι → ℕ) (w : ι → BitVec 32)
    (hn : ∀ i, n i ≤ 8192) (hw : ∀ i, w i = BitVec.ofNat 32 (n i)) (hs : s.Nonempty) :
    ∃ i ∈ s, s.fold IntOp.minsi 2147483647#32 w = w i ∧ ∀ j ∈ s, n i ≤ n j := by
  classical
  obtain ⟨i, hi, hmin⟩ := s.exists_min_image n hs
  refine ⟨i, hi, ?_, hmin⟩
  have key : ∀ t : Finset ι, (∀ j ∈ t, n i ≤ n j) →
      (t.fold IntOp.minsi 2147483647#32 w = if i ∈ t then w i else t.fold IntOp.minsi 2147483647#32 w)
      ∧ (w i).toNat ≤ (t.fold IntOp.minsi 2147483647#32 w).toNat ∧ (t.fold IntOp.minsi 2147483647#32 w).toNat < 2 ^ 31 := by
    intro t
    induction t using Finset.induction_on with
    | empty =>
      intro _
      refine ⟨by simp, ?_, by simp⟩
      rw [hw i]; have := hn i; simp only [Finset.fold_empty, BitVec.toNat_ofNat]; omega
    | insert j t hj ih =>
      intro h
      obtain ⟨h1, h2, h3⟩ := ih fun k hk => h k (Finset.mem_insert_of_mem hk)
      have hwj : (w j).toNat = n j := by rw [hw j]; have := hn j; rw [BitVec.toNat_ofNat]; omega
      have hwi : (w i).toNat = n i := by rw [hw i]; have := hn i; rw [BitVec.toNat_ofNat]; omega
      have hij := h j (Finset.mem_insert_self j t)
      have hfold := Finset.fold_insert (op := IntOp.minsi) (f := w) (b := 2147483647#32) hj
      have hmin' := WordArith.toNat_minsi_of_lt (w j) (t.fold IntOp.minsi 2147483647#32 w) (by have := hn j; omega) h3
      rw [hfold]
      refine ⟨?_, by rw [hmin', hwj, hwi]; omega, by rw [hmin']; have := hn j; omega⟩
      by_cases hi' : i ∈ insert j t
      · rw [if_pos hi']
        apply BitVec.eq_of_toNat_eq
        rw [hmin']
        rcases Finset.mem_insert.mp hi' with rfl | hit
        · omega
        · rw [if_pos hit] at h1
          rw [h1] at h2 ⊢
          omega
      · rw [if_neg hi']
  have := (key s hmin).1
  rwa [if_pos hi] at this

end Cert.Farthest
-- ==== Proof.TripValue.lean ====
/-
  One trip of the sampling loop read at its elements, over the extended reals: the running distances lowered, and the
  coordinates of the first point whose running distance is the greatest.
-/
module

public import proofs.«01_k».proof.Proof.TripShape
public import proofs.«01_k».proof.Proof.Tracks
public import Idealize.ShloMosaic.Lib.WritesUnit
public import Idealize.ShloMosaic.Lib.Pipeline.Value
public import Idealize.ShloMosaic.PureOps.Ideal.Laws

@[expose] public section

noncomputable section

namespace Cert.KernelIdeal.Sampling

open Cert.KernelIdeal Cert.KernelIdeal.Gen Cert.Farthest
open Idealize.ShloMosaic.TcCoe Idealize.ShloMosaic.ValueIdx
open Idealize.ShloMosaic hiding ix1 ix2 ix3

/-- A column broadcast along the lanes reads the column. -/
theorem column_apply {α : Type} (p : S16x1.Idx → α) (r : Fin 16) (l : Fin 128) :
    broadcastTo S16x128 p broadcasts_S16x1_S16x128 (ix2 r l) = p (ix2 r 0) :=
  broadcastTo_apply p _ _ _ fun a => match a with | ⟨0, _⟩ => rfl | ⟨1, _⟩ => rfl

/-- A vector cast to a column reads the vector. -/
theorem toColumn_apply {α : Type} (p : S16.Idx → α) (r : Fin 16) :
    shapeCast S16x1 p shapeCasts_S16_S16x1 (ix2 r 0) = p (ix1 r) :=
  shapeCast_apply p _ _ _ (by
    rw [Shape.rowMajor_val_one, Shape.rowMajor_val_two]; show r.val = r.val * 1 + 0; omega)

/-- The index of lane `l` over row `r`. -/
theorem lift_lane (r : Fin 16) (l : Fin 128) : reduces_S16x128_S16.lift (ix1 r) l = ix2 r l := by
  funext a; match a with | ⟨0, _⟩ => rfl | ⟨1, _⟩ => rfl

/-- The point under lane `l` of chunk `k`. -/
def lane (k : ℕ) (h : k < 64) (l : Fin 128) : Fin 8192 := ⟨128 * k + l.val, by have := l.isLt; omega⟩

/-- Chunk `k`'s load at a lane reads the lane's point. -/
theorem load_apply {arg : Memref sig .tc .vmem S16x8192 .f32} (X : BufTy.Contents (Elt Ideal) arg.view.ty) (k : ℕ)
    (h : k < 64) (r : Fin 16) (l : Fin 128) :
    View.readAt (Elt Ideal) arg.view (tile k h).toLoadRect X (ix2 r l) = arg.view.read (Elt Ideal) X (ix2 r (lane k h l)) := by
  show arg.view.read (Elt Ideal) X _ = _
  congr 1
  funext a
  match a with
  | ⟨0, _⟩ => apply Fin.ext; show 0 + 1 * r.val = r.val; omega
  | ⟨1, _⟩ => apply Fin.ext; show 128 * k + 1 * l.val = 128 * k + l.val; omega

/-- The maximum along a row, as a column. -/
theorem maximum_row (v : FVec Ideal S16x128 .f32) (r : Fin 16) :
    shapeCast S16x1 (multiReduction .maximumf [1] S16 v 0xFF800000#32 reduces_S16x128_S16 (.inl rfl) rfl) shapeCasts_S16_S16x1 (ix2 r 0)
      = (Finset.univ : Finset (Fin 128)).sup fun l => v (ix2 r l) := by
  rw [toColumn_apply]
  refine (Ideal.multiReduction_maximumf_single v _ reduces_S16x128_S16 _ _ (ix1 r)).trans ?_
  have h : (FloatOps.ofBits (F := Ideal) .f32 0xFF800000#32) = (⊥ : EReal) := by simp [Ideal.ofBits, Ideal.ieee]
  rw [h]
  show Finset.univ.sup _ = _
  refine Finset.sup_congr rfl fun l _ => ?_
  exact congrArg v (lift_lane r l)

/-- The signed minimum along a row. -/
theorem minimum_lanes (v : IVec S16x128 32) (r : Fin 16) :
    multiReductionI .minsi [1] S16 v 2147483647#32 reduces_S16x128_S16 rfl (ix1 r)
      = (Finset.univ : Finset (Fin 128)).fold IntOp.minsi 2147483647#32 fun l => v (ix2 r l) := by
  refine (multiReductionI_eq_fold .minsi v _ reduces_S16x128_S16 rfl (ix1 r)).trans ?_
  refine (reduces_S16x128_S16.fold_filter_drop_single IKind.minsi.op _ v (ix1 r)).trans ?_
  have e : (v ∘ reduces_S16x128_S16.lift (ix1 r)) = fun l => v (ix2 r l) := funext fun l => congrArg v (lift_lane r l)
  rw [e]
  rfl

/-- Row `r` of a buffer. -/
def row (arg : Memref sig .tc .vmem S16x8192 .f32) (X : BufTy.Contents (Elt Ideal) arg.view.ty) (r : Fin 16) : Fin 8192 → EReal :=
  fun n => arg.view.read (Elt Ideal) X (ix2 r n)

section
variable (arg0 arg1 arg2 arg6 : Memref sig .tc .vmem S16x8192 .f32) (cst : Ideal .f32)
  (X0 : BufTy.Contents (Elt Ideal) arg0.view.ty) (X1 : BufTy.Contents (Elt Ideal) arg1.view.ty)
  (X2 : BufTy.Contents (Elt Ideal) arg2.view.ty) (acc : Carry Ideal) (f : BufTy.Contents (Elt Ideal) arg6.view.ty)

/-- A row's running distances once lowered by the squared distances from the carried point. -/
def low (r : Fin 16) (n : Fin 8192) : EReal :=
  min (row arg6 f r n) (sq (row arg0 X0 r) (row arg1 X1 r) (row arg2 X2 r) (acc.1 (ix2 r 0)) (acc.2.1 (ix2 r 0)) (acc.2.2.1 (ix2 r 0)) n)

/-- A chunk's difference at a lane. -/
theorem delta_apply (arg : Memref sig .tc .vmem S16x8192 .f32) (X : BufTy.Contents (Elt Ideal) arg.view.ty)
    (p : FVec Ideal S16x1 .f32) (k : ℕ) (h : k < 64) (r : Fin 16) (l : Fin 128) :
    delta arg X p k h (ix2 r l) = row arg X r (lane k h l) - p (ix2 r 0) := by
  unfold delta
  rw [subf_apply, column_apply]
  exact congrArg (fun z : EReal => z - p (ix2 r 0)) ((congrFun (shapeCast_self _ _) _).trans (load_apply X k h r l))

/-- A chunk's new running distance at a lane. -/
theorem fresh_apply (k : ℕ) (h : k < 64) (r : Fin 16) (l : Fin 128) :
    fresh arg0 arg1 arg2 arg6 X0 X1 X2 acc f k h (ix2 r l) = low arg0 arg1 arg2 arg6 X0 X1 X2 acc f r (lane k h l) := by
  unfold fresh
  rw [minimumf_apply, addf_apply, addf_apply, mulf_apply, mulf_apply, mulf_apply, delta_apply, delta_apply, delta_apply, load_apply]
  rfl

/-- What the first `n` chunks' pieces leave under them. -/
theorem pieces_read (g : BufTy.Contents (Elt Ideal) arg6.view.ty) (n : ℕ) (hn : n ≤ 64) (r : Fin 16) (c : Fin 8192)
    (hc : c.val < 128 * n) :
    arg6.view.read (Elt Ideal) (arg6.view.writes (Elt Ideal) g (pieces arg0 arg1 arg2 arg6 X0 X1 X2 acc f n hn)) (ix2 r c)
      = low arg0 arg1 arg2 arg6 X0 X1 X2 acc f r c := by
  induction n with
  | zero => omega
  | succ n ih =>
    show arg6.view.read (Elt Ideal) (arg6.view.writes (Elt Ideal) g (⟨Rect.unit (s := S16x8192) ![0, 128 * n] S16x128.size _, _⟩ :: _)) (ix2 r c) = _
    by_cases h : c.val < 128 * n
    · refine (View.read_writes_cons_unit_of_not_mem (s := S16x8192) (off' := ![0, 128 * n]) arg6.view g (tile_inb n hn) _ _ (ix2 r c) rfl 1 (.inl h)).trans ?_
      exact ih (Nat.le_of_succ_le hn) h
    · refine (View.read_writes_cons_unit_of_mem (s := S16x8192) (off' := ![0, 128 * n]) arg6.view g (tile_inb n hn) _ _ (ix2 r c)
        (ix2 r (⟨c.val - 128 * n, by omega⟩ : Fin 128)) rfl
        (fun a => match a with
          | ⟨0, _⟩ => (Nat.zero_add _).symm
          | ⟨1, _⟩ => by show c.val = 128 * n + (c.val - 128 * n); omega)).trans ?_
      rw [shapeCast_self, fresh_apply]
      congr 1
      apply Fin.ext
      show 128 * n + (c.val - 128 * n) = c.val
      omega

/-- After the trip the running distances are the lowered ones. -/
theorem row_pieces (g : BufTy.Contents (Elt Ideal) arg6.view.ty) (r : Fin 16) :
    row arg6 (arg6.view.writes (Elt Ideal) g (pieces arg0 arg1 arg2 arg6 X0 X1 X2 acc f 64 (by decide))) r
      = low arg0 arg1 arg2 arg6 X0 X1 X2 acc f r :=
  funext fun c => pieces_read arg0 arg1 arg2 arg6 X0 X1 X2 acc f g 64 _ r c c.isLt

/-- The running maximum of a quarter of the chunks is below what bounds each of them. -/
theorem top_le_iff (hcst : cst = (⊥ : EReal)) (j : ℕ) (hj : j < 4) (n : ℕ) (hn : n ≤ 16) (r : Fin 16) (l : Fin 128) (a : EReal) :
    (top arg0 arg1 arg2 arg6 cst X0 X1 X2 acc f j hj n hn (ix2 r l) : EReal) ≤ a
      ↔ ∀ i (hi : i < n), low arg0 arg1 arg2 arg6 X0 X1 X2 acc f r (lane (4 * i + j) (by omega) l) ≤ a := by
  induction n with
  | zero =>
    refine ⟨fun _ i hi => absurd hi (Nat.not_lt_zero i), fun _ => ?_⟩
    show (cst : EReal) ≤ a
    rw [hcst]; exact bot_le
  | succ n ih =>
    unfold top
    rw [maximumf_apply, fresh_apply, max_le_iff, ih]
    constructor
    · rintro ⟨h1, h2⟩ i hi
      rcases Nat.lt_succ_iff_lt_or_eq.mp hi with h | rfl
      · exact h1 i h
      · exact h2
    · exact fun h => ⟨fun i hi => h i (Nat.lt_succ_of_lt hi), h n (Nat.lt_succ_self n)⟩

/-- A point is under some lane of some chunk of one of the four quarters. -/
theorem quarters (c : Fin 8192) : ∃ (j : ℕ) (i : ℕ) (hi : i < 16) (hj : j < 4) (l : Fin 128), c = lane (4 * i + j) (by omega) l := by
  refine ⟨c.val / 128 % 4, c.val / 128 / 4, by omega, by omega, ⟨c.val % 128, by omega⟩, Fin.ext ?_⟩
  show c.val = 128 * (4 * (c.val / 128 / 4) + c.val / 128 % 4) + c.val % 128
  omega

/-- The peak is the least bound of the lowered distances. -/
theorem peak_le_iff (hcst : cst = (⊥ : EReal)) (r : Fin 16) (a : EReal) :
    (peak arg0 arg1 arg2 arg6 cst X0 X1 X2 acc f (ix2 r 0) : EReal) ≤ a
      ↔ ∀ c, low arg0 arg1 arg2 arg6 X0 X1 X2 acc f r c ≤ a := by
  unfold peak
  rw [maximum_row, Finset.sup_le_iff]
  simp only [maximumf_apply, max_le_iff, top_le_iff arg0 arg1 arg2 arg6 cst X0 X1 X2 acc f hcst, Finset.mem_univ, true_implies]
  constructor
  · intro h c
    obtain ⟨j, i, hi, hj, l, rfl⟩ := quarters c
    have hl := h l
    match j, hj with
    | 0, _ => exact hl.1.1 i hi
    | 1, _ => exact hl.1.2 i hi
    | 2, _ => exact hl.2.1 i hi
    | 3, _ => exact hl.2.2 i hi
  · exact fun h l => ⟨⟨fun i _ => h _, fun i _ => h _⟩, fun i _ => h _, fun i _ => h _⟩

/-- A lowered distance equal to the peak is a greatest one, and conversely. -/
theorem eq_peak_iff (hcst : cst = (⊥ : EReal)) (r : Fin 16) (c : Fin 8192) :
    low arg0 arg1 arg2 arg6 X0 X1 X2 acc f r c = peak arg0 arg1 arg2 arg6 cst X0 X1 X2 acc f (ix2 r 0)
      ↔ ∀ m, low arg0 arg1 arg2 arg6 X0 X1 X2 acc f r m ≤ low arg0 arg1 arg2 arg6 X0 X1 X2 acc f r c := by
  have hp := peak_le_iff arg0 arg1 arg2 arg6 cst X0 X1 X2 acc f hcst r
  constructor
  · intro h m
    rw [h]
    exact (hp _).mp le_rfl m
  · exact fun h => le_antisymm ((hp _).mp le_rfl c) ((hp _).mpr h)
end

section
variable (arg6 : Memref sig .tc .vmem S16x8192 .f32) (v5 : IVec S16x128 32) (cst : Ideal .f32)
  (m : FVec Ideal S16x1 .f32) (D : List (View.Piece (Elt Ideal) S16x8192 .f32)) (d : Fin 16 → Fin 8192 → EReal)

open Classical in
/-- A chunk's candidate at a lane: the lane's point if its running distance is the greatest. -/
theorem cand_apply (hv5 : ∀ i, v5 i = BitVec.ofNat 32 (i 1).val)
    (hD : ∀ r c, arg6.view.read (Elt Ideal) (arg6.view.writes (Elt Ideal) arg6.view.junk D) (ix2 r c) = d r c)
    (k : ℕ) (h : k < 64) (r : Fin 16) (l : Fin 128) :
    cand arg6 v5 m D k h (ix2 r l)
      = Scalar.select (BitVec.ofBool (decide (d r (lane k h l) = m (ix2 r 0)))) (BitVec.ofNat 32 (lane k h l).val) 8192#32 := by
  unfold cand
  rw [select_apply, cmpf_apply, column_apply]
  have e1 : arg6.view.readCov D (tile k h).toLoadRect (ix2 r l) = d r (lane k h l) := (load_apply _ k h r l).trans (hD r _)
  have e2 : addi v5 (broadcast S16x128 (BitVec.ofNat 32 (128 * k))) (ix2 r l) = BitVec.ofNat 32 (lane k h l).val := by
    show v5 (ix2 r l) + BitVec.ofNat 32 (128 * k) = BitVec.ofNat 32 (128 * k + l.val)
    rw [hv5, BitVec.ofNat_add, BitVec.add_comm]
  rw [e1, e2]
  rfl

variable (hv5 : ∀ i, v5 i = BitVec.ofNat 32 (i 1).val)
  (hD : ∀ r c, arg6.view.read (Elt Ideal) (arg6.view.writes (Elt Ideal) arg6.view.junk D) (ix2 r c) = d r c)
  (arg : Memref sig .tc .vmem S16x8192 .f32) (X : BufTy.Contents (Elt Ideal) arg.view.ty)

/-- A position whose running distance is the greatest. -/
def Hit (r : Fin 16) (c : ℕ) : Prop := ∃ h : c < 8192, d r ⟨c, h⟩ = m (ix2 r 0)

include hv5 hD in
/-- One quarter's accumulators track its first greatest position under each lane. -/
theorem least_tracks (j : ℕ) (hj : j < 4) (n : ℕ) (hn : n ≤ 16) (r : Fin 16) (l : Fin 128) :
    Tracks (row arg X r) (fun c => ∃ i, i < n ∧ c = 128 * (4 * i + j) + l.val ∧ Hit m d r c)
      (least arg6 v5 m D j hj n hn (ix2 r l)) (carried arg6 v5 m D arg X j hj n hn (ix2 r l)) := by
  classical
  induction n with
  | zero => exact Tracks.empty _ _ (fun c h => by obtain ⟨i, hi, _⟩ := h; omega) _
  | succ n ih =>
    have hk : 4 * n + j < 64 := by omega
    have hs := Tracks.single (row arg X r) (fun c => c = 128 * (4 * n + j) + l.val ∧ Hit m d r c) (lane (4 * n + j) hk l)
      (d r (lane (4 * n + j) hk l) = m (ix2 r 0)) (fun c => by
        constructor
        · rintro ⟨rfl, h, e⟩; exact ⟨rfl, e⟩
        · rintro ⟨rfl, e⟩; exact ⟨rfl, (lane (4 * n + j) hk l).isLt, e⟩)
    rw [← cand_apply arg6 v5 m D d hv5 hD] at hs
    have := (ih (Nat.le_of_succ_le hn)).lesser hs
      (S'' := fun c => ∃ i, i < n + 1 ∧ c = 128 * (4 * i + j) + l.val ∧ Hit m d r c) (fun c => by
        constructor
        · rintro ⟨i, hi, h⟩
          rcases Nat.lt_succ_iff_lt_or_eq.mp hi with h' | rfl
          · exact .inl ⟨i, h', h⟩
          · exact .inr h
        · rintro (⟨i, hi, h⟩ | h)
          · exact ⟨i, Nat.lt_succ_of_lt hi, h⟩
          · exact ⟨n, Nat.lt_succ_self n, h⟩)
    have e : carried arg6 v5 m D arg X j hj (n + 1) hn (ix2 r l)
        = Scalar.select (IntOp.cmpi .slt (cand arg6 v5 m D (4 * n + j) hk (ix2 r l)) (least arg6 v5 m D j hj n (Nat.le_of_succ_le hn) (ix2 r l)))
          (row arg X r (lane (4 * n + j) hk l)) (carried arg6 v5 m D arg X j hj n (Nat.le_of_succ_le hn) (ix2 r l)) := by
      conv_lhs => unfold carried
      rw [select_apply]
      exact congrArg (fun z => Scalar.select _ z _) ((congrFun (shapeCast_self _ _) _).trans (load_apply X _ hk r l))
    rw [e]
    exact this

include hv5 hD in
/-- The folded accumulators track the first greatest position under each lane. -/
theorem leastOf_tracks (j : ℕ) (hj : j < 4) (r : Fin 16) (l : Fin 128) :
    Tracks (row arg X r) (fun c => ∃ j' i, j' ≤ j ∧ i < 16 ∧ c = 128 * (4 * i + j') + l.val ∧ Hit m d r c)
      (leastOf arg6 v5 m D j hj (ix2 r l)) (carriedOf arg6 v5 m D arg X j hj (ix2 r l)) := by
  induction j with
  | zero =>
    have := least_tracks arg6 v5 m D d hv5 hD arg X 0 hj 16 (by decide) r l
    refine Eq.mp ?_ this
    congr 1
    funext c
    refine propext ⟨fun ⟨i, h⟩ => ⟨0, i, le_rfl, h⟩, fun ⟨j', i, hj', h⟩ => ⟨i, ?_⟩⟩
    obtain rfl : j' = 0 := by omega
    exact h
  | succ j ih =>
    exact (ih (Nat.lt_of_succ_lt hj)).lesser (least_tracks arg6 v5 m D d hv5 hD arg X (j + 1) hj 16 (by decide) r l) (fun c => by
      constructor
      · rintro ⟨j', i, hj', h⟩
        rcases Nat.le_succ_iff.mp hj' with h' | rfl
        · exact .inl ⟨j', i, h', h⟩
        · exact .inr ⟨i, h⟩
      · rintro (⟨j', i, hj', h⟩ | ⟨i, h⟩)
        · exact ⟨j', i, Nat.le_succ_of_le hj', h⟩
        · exact ⟨j + 1, i, le_rfl, h⟩)

include hv5 hD in
/-- The chosen coordinate is that of the first position whose running distance is the greatest. -/
theorem chosen_apply (hcst : cst = (⊥ : EReal)) (r : Fin 16) (n : Fin 8192) (hn : IsFirst (fun c => d r c = m (ix2 r 0)) n) :
    chosen arg6 v5 cst m D arg X (ix2 r 0) = row arg X r n := by
  classical
  have ht := leastOf_tracks arg6 v5 m D d hv5 hD arg X 3 (by decide) r
  choose w hw8 hw hmin hval using ht
  obtain ⟨l0, -, hfold, hl0⟩ := fold_minsi_small (Finset.univ : Finset (Fin 128)) w
    (fun l => leastOf arg6 v5 m D 3 (by decide) (ix2 r l)) hw8 hw ⟨0, Finset.mem_univ _⟩
  have hred : multiReductionI .minsi [1] S16 (leastOf arg6 v5 m D 3 (by decide)) 2147483647#32 reduces_S16x128_S16 rfl (ix1 r)
      = leastOf arg6 v5 m D 3 (by decide) (ix2 r l0) := by
    exact (minimum_lanes _ r).trans hfold
  have hin : ∀ c : Fin 8192, d r c = m (ix2 r 0) → w l0 ≤ c.val := by
    intro c hc
    obtain ⟨j, i, hi, hj, l, rfl⟩ := quarters c
    exact (hl0 l (Finset.mem_univ l)).trans (hmin l _ ⟨j, i, by omega, hi, rfl, (lane (4 * i + j) (by omega) l).isLt, hc⟩)
  have hlt : w l0 < 8192 := (hin n hn.1).trans_lt n.isLt
  have hn0 : n = ⟨w l0, hlt⟩ := by
    refine hn.unique ⟨?_, fun c hc hc' => absurd (hin c hc') (not_le.mpr hc)⟩
    obtain ⟨j', i, -, -, -, h, e⟩ := (hval l0 hlt).1
    exact e
  unfold chosen
  rw [maximum_row]
  have hval' : ∀ l, (select (winner arg6 v5 m D) (carriedOf arg6 v5 m D arg X 3 (by decide)) (broadcast S16x128 cst) (ix2 r l) : EReal)
      = if w l = w l0 then row arg X r n else ⊥ := by
    intro l
    have hwin : winner arg6 v5 m D (ix2 r l) = BitVec.ofBool (decide (w l = w l0)) := by
      unfold winner
      show IntOp.cmpi .eq _ _ = _
      rw [column_apply, toColumn_apply, hred, hw l, hw l0, eq_small (hw8 l) (hw8 l0)]
    rw [select_apply, hwin, select_ofBool, broadcast_apply]
    by_cases h : w l = w l0
    · rw [if_pos h, if_pos h]
      exact (hval l (h ▸ hlt)).2.trans (congrArg (row arg X r) ((Fin.ext h).trans hn0.symm))
    · rw [if_neg h, if_neg h, hcst]
  simp only [hval']
  apply le_antisymm
  · refine Finset.sup_le fun l _ => ?_
    by_cases h : w l = w l0
    · rw [if_pos h]
    · rw [if_neg h]; exact bot_le
  · refine le_trans ?_ (Finset.le_sup (Finset.mem_univ l0))
    rw [if_pos rfl]
end

end Cert.KernelIdeal.Sampling
-- ==== Proof.LoopValue.lean ====
/-
  The whole sampling loop read at its elements, over the extended reals: after `k` trips the running distances, the last
  chosen point and the first entries of the tables are those of farthest point sampling.
-/
module

public import proofs.«01_k».proof.Proof.TripValue

@[expose] public section

noncomputable section

namespace Cert.KernelIdeal.Sampling

open Cert.KernelIdeal Cert.KernelIdeal.Gen Cert.Farthest
open Idealize.ShloMosaic.TcCoe Idealize.ShloMosaic.ValueIdx
open Idealize.ShloMosaic hiding ix1 ix2 ix3

/-- The loop makes 511 trips. -/
theorem trips_eq : k0_t1_loop.trips = 511 := by decide +kernel

/-- A table with an entry set, read at an entry. -/
theorem mark_apply (k : Fin k0_t1_loop.trips) (l : FVec Ideal S16x1 .f32) (t : FVec Ideal S16x512 .f32) (r : Fin 16) (g : Fin 512) :
    mark k l t (ix2 r g) = if g.val = k.val + 1 then l (ix2 r 0) else t (ix2 r g) := by
  have hk : k.val < 511 := trips_eq ▸ k.isLt
  unfold mark
  rw [select_apply]
  have e1 : cmpi .eq (iota .tc S16x512 32 [1] iota_S16x512_d1_w32) (broadcast S16x512 (Scf.iv 1#32 1#32 k)) (ix2 r g)
      = BitVec.ofBool (decide (g.val = k.val + 1)) := by
    show IntOp.cmpi .eq (BitVec.ofNat 32 (0 * 512 + g.val)) (1#32 + BitVec.ofNat 32 k.val * 1#32) = _
    have e : (1#32 + BitVec.ofNat 32 k.val * 1#32) = BitVec.ofNat 32 (k.val + 1) := by
      rw [BitVec.mul_one, BitVec.add_comm, BitVec.ofNat_add]
    rw [e, Nat.zero_mul, Nat.zero_add]
    exact eq_small (by have := g.isLt; omega) (by omega)
  have e2 : broadcastTo S16x512 (shapeCast S16x1 l shapeCasts_S16x1_S16x1) broadcasts_S16x1_S16x512 (ix2 r g) = l (ix2 r 0) := by
    rw [shapeCast_self]
    exact broadcastTo_apply l _ _ _ fun a => match a with | ⟨0, _⟩ => rfl | ⟨1, _⟩ => rfl
  rw [e1, e2, select_ofBool]

variable (𝒱 : Variants) (c : Dev nD) (bd : Option 𝒱.V) (arg0 : Memref sig .tc .vmem S16x8192 .f32) (harg0 : arg0.IsWhole) (arg1 : Memref sig .tc .vmem S16x8192 .f32) (harg1 : arg1.IsWhole) (arg2 : Memref sig .tc .vmem S16x8192 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S16x512 .f32) (harg5 : arg5.IsWhole) (arg6 : Memref sig .tc .vmem S16x8192 .f32) (harg6 : arg6.IsWhole) (v5 : IVec S16x128 32) (cst : Ideal .f32) (X0 : BufTy.Contents (Elt Ideal) arg0.view.ty) (X1 : BufTy.Contents (Elt Ideal) arg1.view.ty) (X2 : BufTy.Contents (Elt Ideal) arg2.view.ty)

/-- Farthest point sampling of row `r` of the three coordinate buffers. -/
abbrev rowRun (r : Fin 16) : ℕ → (Fin 8192 → EReal) × Fin 8192 := run (row arg0 X0 r) (row arg1 X1 r) (row arg2 X2 r)

/-- A table after `k` trips: the first `k + 1` chosen points' coordinate, then zero. -/
def Table (arg : Memref sig .tc .vmem S16x8192 .f32) (X : BufTy.Contents (Elt Ideal) arg.view.ty) (k : ℕ) (t : FVec Ideal S16x512 .f32) : Prop :=
  ∀ (r : Fin 16) (g : Fin 512), t (ix2 r g) = if g.val ≤ k then row arg X r (rowRun arg0 arg1 arg2 X0 X1 X2 r g.val).2 else 0

/-- What `k` trips leave: the carried point, the tables and the running distances `f`. -/
structure After (k : ℕ) (acc : Carry Ideal) (f : BufTy.Contents (Elt Ideal) arg6.view.ty) : Prop where
  distances : ∀ r, row arg6 f r = (rowRun arg0 arg1 arg2 X0 X1 X2 r k).1
  x : ∀ r, acc.1 (ix2 r 0) = row arg0 X0 r (rowRun arg0 arg1 arg2 X0 X1 X2 r k).2
  y : ∀ r, acc.2.1 (ix2 r 0) = row arg1 X1 r (rowRun arg0 arg1 arg2 X0 X1 X2 r k).2
  z : ∀ r, acc.2.2.1 (ix2 r 0) = row arg2 X2 r (rowRun arg0 arg1 arg2 X0 X1 X2 r k).2
  tx : Table arg0 arg1 arg2 X0 X1 X2 arg0 X0 k acc.2.2.2.1
  ty : Table arg0 arg1 arg2 X0 X1 X2 arg1 X1 k acc.2.2.2.2.1
  tz : Table arg0 arg1 arg2 X0 X1 X2 arg2 X2 k acc.2.2.2.2.2

variable {arg0 arg1 arg2 arg6 v5 cst X0 X1 X2} {acc : Carry Ideal} {f : BufTy.Contents (Elt Ideal) arg6.view.ty}
  {k : Fin k0_t1_loop.trips} (h : After arg0 arg1 arg2 arg6 X0 X1 X2 k.val acc f)
  (hv5 : ∀ i, v5 i = BitVec.ofNat 32 (i 1).val) (hcst : cst = (⊥ : EReal))

include h in
/-- The lowered distances of the next trip. -/
theorem After.low_eq (r : Fin 16) :
    low arg0 arg1 arg2 arg6 X0 X1 X2 acc f r = (rowRun arg0 arg1 arg2 X0 X1 X2 r (k.val + 1)).1 := by
  funext n
  unfold low
  rw [h.distances r, h.x r, h.y r, h.z r]
  rfl

include h hv5 hcst in
/-- The next trip's point is the next step's. -/
theorem After.next_eq (arg : Memref sig .tc .vmem S16x8192 .f32) (X : BufTy.Contents (Elt Ideal) arg.view.ty) (r : Fin 16) :
    next arg0 arg1 arg2 arg6 v5 cst X0 X1 X2 acc f arg X (ix2 r 0) = row arg X r (rowRun arg0 arg1 arg2 X0 X1 X2 r (k.val + 1)).2 := by
  refine chosen_apply arg6 v5 cst _ _ (low arg0 arg1 arg2 arg6 X0 X1 X2 acc f) hv5
    (fun r c => pieces_read arg0 arg1 arg2 arg6 X0 X1 X2 acc f _ 64 _ r c c.isLt) arg X hcst r _ ?_
  have hf := firstMax_spec (low arg0 arg1 arg2 arg6 X0 X1 X2 acc f r)
  have e : (rowRun arg0 arg1 arg2 X0 X1 X2 r (k.val + 1)).2 = firstMax (low arg0 arg1 arg2 arg6 X0 X1 X2 acc f r) := by
    rw [h.low_eq r]; rfl
  rw [e]
  exact ⟨(eq_peak_iff arg0 arg1 arg2 arg6 cst X0 X1 X2 acc f hcst r _).mpr hf.1,
    fun m hm hm' => hf.2 m hm ((eq_peak_iff arg0 arg1 arg2 arg6 cst X0 X1 X2 acc f hcst r _).mp hm')⟩

/-- A table with the next entry set. -/
theorem Table.mark {arg : Memref sig .tc .vmem S16x8192 .f32} {X : BufTy.Contents (Elt Ideal) arg.view.ty} {t : FVec Ideal S16x512 .f32}
    {l : FVec Ideal S16x1 .f32} (ht : Table arg0 arg1 arg2 X0 X1 X2 arg X k.val t)
    (hl : ∀ r, l (ix2 r 0) = row arg X r (rowRun arg0 arg1 arg2 X0 X1 X2 r (k.val + 1)).2) :
    Table arg0 arg1 arg2 X0 X1 X2 arg X (k.val + 1) (mark k l t) := by
  intro r g
  rw [mark_apply, hl, ht]
  by_cases h1 : g.val = k.val + 1
  · rw [if_pos h1, if_pos (by omega), h1]
  · rw [if_neg h1]
    by_cases h2 : g.val ≤ k.val
    · rw [if_pos h2, if_pos (by omega)]
    · rw [if_neg h2, if_neg (by omega)]

include h hv5 hcst in
/-- One trip on. -/
theorem After.step :
    After arg0 arg1 arg2 arg6 X0 X1 X2 (k.val + 1)
      ((trip 𝒱 c bd arg0 harg0 arg1 harg1 arg2 harg2 arg3 harg3 arg4 harg4 arg5 harg5 arg6 harg6 v5 cst X0 X1 X2 k).1 acc f)
      (arg6.view.writes (Elt Ideal) f ((trip 𝒱 c bd arg0 harg0 arg1 harg1 arg2 harg2 arg3 harg3 arg4 harg4 arg5 harg5 arg6 harg6 v5 cst X0 X1 X2 k).2.1 acc f)) := by
  rw [trip_yield, trip_pieces]
  have hn := fun arg X => h.next_eq hv5 hcst arg X
  exact ⟨fun r => (row_pieces arg0 arg1 arg2 arg6 X0 X1 X2 acc f f r).trans (h.low_eq r), hn arg0 X0, hn arg1 X1, hn arg2 X2,
    h.tx.mark (hn arg0 X0), h.ty.mark (hn arg1 X1), h.tz.mark (hn arg2 X2)⟩

include hv5 hcst in
/-- All trips. -/
theorem After.state (G : BufTy.Contents (Elt Ideal) arg6.view.ty) (init : Carry Ideal) (h0 : After arg0 arg1 arg2 arg6 X0 X1 X2 0 init G) :
    ∀ n : ℕ, n ≤ k0_t1_loop.trips → After arg0 arg1 arg2 arg6 X0 X1 X2 n
      (state 𝒱 c bd arg0 harg0 arg1 harg1 arg2 harg2 arg3 harg3 arg4 harg4 arg5 harg5 arg6 harg6 v5 cst X0 X1 X2 G init n).1
      (arg6.view.writes (Elt Ideal) G (state 𝒱 c bd arg0 harg0 arg1 harg1 arg2 harg2 arg3 harg3 arg4 harg4 arg5 harg5 arg6 harg6 v5 cst X0 X1 X2 G init n).2)
  | 0, _ => h0
  | n + 1, hn => by
    have hs := state_succ 𝒱 c bd arg0 harg0 arg1 harg1 arg2 harg2 arg3 harg3 arg4 harg4 arg5 harg5 arg6 harg6 v5 cst X0 X1 X2 G init ⟨n, hn⟩
    rw [hs, View.writes_append]
    exact (After.state G init h0 n (Nat.le_of_succ_le hn)).step 𝒱 c bd harg0 harg1 harg2 arg3 harg3 arg4 harg4 arg5 harg5 harg6 (k := ⟨n, hn⟩) hv5 hcst

end Cert.KernelIdeal.Sampling
-- ==== Proof.SampleValue.lean ====
/-
  The sampling kernel's three outputs over the extended reals: the chosen points' coordinates.
-/
module

public import proofs.«01_k».proof.Proof.LoopValue
public import proofs.«01_k».proof.Proof.FrameIdeal
public import Idealize.ShloMosaic.Lib.Pipeline.ValueKit

@[expose] public section

noncomputable section

namespace Cert.KernelIdeal.Sampling

open Cert.KernelIdeal Cert.KernelIdeal.Gen Cert.Farthest
open Idealize.ShloMosaic.TcCoe Idealize.ShloMosaic.ValueIdx
open Idealize.ShloMosaic hiding ix1 ix2 ix3

section
variable {F : FTy → Type} [FloatOps F]
variable (c : Dev nD) (arg0 : Memref sig .tc .vmem S16x8192 .f32) (harg0 : arg0.IsWhole) (arg1 : Memref sig .tc .vmem S16x8192 .f32) (harg1 : arg1.IsWhole) (arg2 : Memref sig .tc .vmem S16x8192 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S16x512 .f32) (harg5 : arg5.IsWhole) (arg6 : Memref sig .tc .vmem S16x8192 .f32) (harg6 : arg6.IsWhole)
  (x0 x1 x2 : Vec F S16x8192 .f32)

/-- A first-column load. -/
abbrev firstCol (arg : Memref sig .tc .vmem S16x8192 .f32) (X : BufTy.Contents (Elt F) arg.view.ty) : Vec F S16x1 .f32 :=
  View.readAt (Elt F) arg.view (Rect.unit (s := S16x8192) ![0, 0] S16x1.size inb_S16x8192_S16x1_0_0).toLoadRect X

/-- What the loop starts from. -/
abbrev start : Carry F :=
  (k0_pay651 (firstCol arg0 (harg0.unread x0)), k0_pay652 (firstCol arg1 (harg1.unread x1)), k0_pay653 (firstCol arg2 (harg2.unread x2)),
    k0_pay654 (firstCol arg0 (harg0.unread x0)), k0_pay655 (firstCol arg1 (harg1.unread x1)), k0_pay656 (firstCol arg2 (harg2.unread x2)))

/-- The running distances the loop starts from. -/
abbrev start6 : BufTy.Contents (Elt F) arg6.view.ty :=
  arg6.view.writes (Elt F) arg6.view.junk kernelRun0_A.sl.HS0_1

/-- What the loop yields. -/
abbrev finish : Carry F :=
  (state Variants.none c none arg0 harg0 arg1 harg1 arg2 harg2 arg3 harg3 arg4 harg4 arg5 harg5 arg6 harg6 kernelRun0_A.sl.v5 kernelRun0_A.sl.cst_12 (harg0.unread x0) (harg1.unread x1) (harg2.unread x2)
    (start6 arg6) (start arg0 harg0 arg1 harg1 arg2 harg2 x0 x1 x2) k0_t1_loop.trips).1

/-- The whole-table store's rectangle. -/
abbrev whole512 : Rect S16x512 := Rect.unit ![0, 0] S16x512.size inb_S16x512_S16x512_0_0

/-- What the kernel stores into its first output. -/
theorem stored_x : (kernelRun0_A c arg0 harg0 arg1 harg1 arg2 harg2 arg3 harg3 arg4 harg4 arg5 harg5 arg6 harg6 x0 x1 x2).1 = [⟨whole512, (finish c arg0 harg0 arg1 harg1 arg2 harg2 arg3 harg3 arg4 harg4 arg5 harg5 arg6 harg6 x0 x1 x2).2.2.2.1⟩] := by sl_kernel_rfl
/-- … its second. -/
theorem stored_y : (kernelRun0_A c arg0 harg0 arg1 harg1 arg2 harg2 arg3 harg3 arg4 harg4 arg5 harg5 arg6 harg6 x0 x1 x2).2.1 = [⟨whole512, (finish c arg0 harg0 arg1 harg1 arg2 harg2 arg3 harg3 arg4 harg4 arg5 harg5 arg6 harg6 x0 x1 x2).2.2.2.2.1⟩] := by sl_kernel_rfl
/-- … and its third. -/
theorem stored_z : (kernelRun0_A c arg0 harg0 arg1 harg1 arg2 harg2 arg3 harg3 arg4 harg4 arg5 harg5 arg6 harg6 x0 x1 x2).2.2.1 = [⟨whole512, (finish c arg0 harg0 arg1 harg1 arg2 harg2 arg3 harg3 arg4 harg4 arg5 harg5 arg6 harg6 x0 x1 x2).2.2.2.2.2⟩] := by sl_kernel_rfl

end

section
variable (c : Dev nD) (arg0 : Memref sig .tc .vmem S16x8192 .f32) (harg0 : arg0.IsWhole) (arg1 : Memref sig .tc .vmem S16x8192 .f32) (harg1 : arg1.IsWhole) (arg2 : Memref sig .tc .vmem S16x8192 .f32) (harg2 : arg2.IsWhole) (arg3 : Memref sig .tc .vmem S16x512 .f32) (harg3 : arg3.IsWhole) (arg4 : Memref sig .tc .vmem S16x512 .f32) (harg4 : arg4.IsWhole) (arg5 : Memref sig .tc .vmem S16x512 .f32) (harg5 : arg5.IsWhole) (arg6 : Memref sig .tc .vmem S16x8192 .f32) (harg6 : arg6.IsWhole)
  (x0 x1 x2 : Vec Ideal S16x8192 .f32)

/-- A whole-table store reads back as stored. -/
theorem whole512_read (v : View sig .tc .vmem S16x512 .f32) (f : v.ty.Contents (Elt Ideal)) (w : Vec Ideal S16x512 .f32) :
    v.read (Elt Ideal) (v.writes (Elt Ideal) f [⟨whole512, w⟩]) = w :=
  funext fun i => View.read_writes_cons_unit_of_mem (off' := ![0, 0]) v f inb_S16x512_S16x512_0_0 w [] i i rfl
    fun a => match a with | ⟨0, _⟩ => (Nat.zero_add _).symm | ⟨1, _⟩ => (Nat.zero_add _).symm

/-- A row of a buffer that holds `x`. -/
theorem row_unread (arg : Memref sig .tc .vmem S16x8192 .f32) (h : arg.IsWhole) (x : Vec Ideal S16x8192 .f32) (r : Fin 16) :
    row arg (h.unread x) r = fun n => x (ix2 r n) := by
  funext n; exact congrFun (h.read_unread x) (ix2 r n)

/-- The first column's entry. -/
theorem firstCol_apply (arg : Memref sig .tc .vmem S16x8192 .f32) (X : BufTy.Contents (Elt Ideal) arg.view.ty) (r : Fin 16) :
    firstCol arg X (ix2 r 0) = row arg X r 0 := by
  show arg.view.read (Elt Ideal) X _ = arg.view.read (Elt Ideal) X _
  congr 1
  funext a
  match a with
  | ⟨0, _⟩ => apply Fin.ext; show 0 + 1 * r.val = r.val; omega
  | ⟨1, _⟩ => rfl

/-- A starting table: the first column's entry, then zero. -/
theorem startTable_apply (v : Vec Ideal S16x1 .f32) (r : Fin 16) (g : Fin 512) :
    k0_pay654 v (ix2 r g) = if g.val ≤ 0 then v (ix2 r 0) else (0 : EReal) := by
  show Scalar.select (IntOp.cmpi .eq (BitVec.ofNat 32 (0 * 512 + g.val)) (BitVec.ofNat 32 0))
    (broadcastTo S16x512 (shapeCast S16x1 (shapeCast S16x1 v shapeCasts_S16x1_S16x1) shapeCasts_S16x1_S16x1) broadcasts_S16x1_S16x512 (ix2 r g))
    (Ideal.ofBits .f32 0x00000000#32) = _
  have e2 : broadcastTo S16x512 (shapeCast S16x1 (shapeCast S16x1 v shapeCasts_S16x1_S16x1) shapeCasts_S16x1_S16x1) broadcasts_S16x1_S16x512 (ix2 r g) = v (ix2 r 0) := by
    rw [shapeCast_self, shapeCast_self]
    exact broadcastTo_apply v _ _ _ fun a => match a with | ⟨0, _⟩ => rfl | ⟨1, _⟩ => rfl
  rw [e2, Nat.zero_mul, Nat.zero_add, eq_small (by have := g.isLt; omega) (by omega), select_ofBool, Ideal.ofBits_zero_f32]
  simp only [Nat.le_zero]

/-- A starting table is the sampling's after no step. -/
theorem startTable (arg : Memref sig .tc .vmem S16x8192 .f32) (X : BufTy.Contents (Elt Ideal) arg.view.ty)
    (X0 : BufTy.Contents (Elt Ideal) arg0.view.ty) (X1 : BufTy.Contents (Elt Ideal) arg1.view.ty) (X2 : BufTy.Contents (Elt Ideal) arg2.view.ty) :
    Table arg0 arg1 arg2 X0 X1 X2 arg X 0 (k0_pay654 (firstCol arg X)) := by
  intro r g
  rw [startTable_apply, firstCol_apply]
  by_cases h : g.val ≤ 0
  · rw [if_pos h, if_pos h, Nat.le_zero.mp h]; rfl
  · rw [if_neg h, if_neg h]

/-- The loop's start is the sampling's. -/
theorem After.start : After arg0 arg1 arg2 arg6 (harg0.unread x0) (harg1.unread x1) (harg2.unread x2) 0
    (start arg0 harg0 arg1 harg1 arg2 harg2 x0 x1 x2) (start6 arg6) where
  distances r := by
    funext n
    refine (View.read_writes_cons_unit_of_mem (s := S16x8192) (off' := ![0, 0]) arg6.view _ inb_S16x8192_S16x8192_0_0 _ [] (ix2 r n) (ix2 r n) rfl
      (fun a => match a with | ⟨0, _⟩ => (Nat.zero_add _).symm | ⟨1, _⟩ => (Nat.zero_add _).symm)).trans ?_
    show shapeCast S16x8192 (broadcast S16x8192 (Ideal.ofBits .f32 0x501502F9#32)) shapeCasts_S16x8192_S16x8192 (ix2 r n) = _
    rw [shapeCast_self]
    rfl
  x r := (congrFun (shapeCast_self _ _) _).trans (firstCol_apply arg0 _ r)
  y r := (congrFun (shapeCast_self _ _) _).trans (firstCol_apply arg1 _ r)
  z r := (congrFun (shapeCast_self _ _) _).trans (firstCol_apply arg2 _ r)
  tx := startTable _ _ _ _ _ _ _ _
  ty := startTable _ _ _ _ _ _ _ _
  tz := startTable _ _ _ _ _ _ _ _

/-- The loop's end is the sampling's. -/
theorem After.finish : ∃ f, After arg0 arg1 arg2 arg6 (harg0.unread x0) (harg1.unread x1) (harg2.unread x2) 511 (finish c arg0 harg0 arg1 harg1 arg2 harg2 arg3 harg3 arg4 harg4 arg5 harg5 arg6 harg6 x0 x1 x2) f := by
  have hcst : kernelRun0_A.sl.cst_12 (F := Ideal) = (⊥ : EReal) := by
    show Ideal.ofBits .f32 0xFF800000#32 = ⊥
    simp [Ideal.ofBits, Ideal.ieee]
  have hv5 : ∀ i, kernelRun0_A.sl.v5 i = BitVec.ofNat 32 (i 1).val := fun i => by
    show BitVec.ofNat 32 (0 * 128 + (i 1).val) = _
    rw [Nat.zero_mul, Nat.zero_add]
  have h := After.state Variants.none c none harg0 harg1 harg2 arg3 harg3 arg4 harg4 arg5 harg5 harg6 hv5 hcst _ _
    (After.start arg0 harg0 arg1 harg1 arg2 harg2 arg6 x0 x1 x2) k0_t1_loop.trips le_rfl
  exact ⟨_, trips_eq ▸ h⟩

/-- Farthest point sampling of row `r` of three coordinate arrays. -/
abbrev sample (x0 x1 x2 : Vec Ideal S16x8192 .f32) (r : Fin 16) (g : ℕ) : Fin 8192 :=
  (run (fun n => x0 (ix2 r n)) (fun n => x1 (ix2 r n)) (fun n => x2 (ix2 r n)) g).2

/-- One coordinate of the chosen points. -/
def picked (x x0 x1 x2 : Vec Ideal S16x8192 .f32) : Vec Ideal S16x512 .f32 := fun i => x (ix2 (i 0) (sample x0 x1 x2 (i 0) (i 1).val))

/-- A finished table holds the chosen points' coordinate. -/
theorem table_picked (arg : Memref sig .tc .vmem S16x8192 .f32) (h : arg.IsWhole) (x : Vec Ideal S16x8192 .f32) (t : FVec Ideal S16x512 .f32)
    (ht : Table arg0 arg1 arg2 (harg0.unread x0) (harg1.unread x1) (harg2.unread x2) arg (h.unread x) 511 t) : t = picked x x0 x1 x2 := by
  funext i
  obtain ⟨r, g, rfl⟩ : ∃ (r : Fin 16) (g : Fin 512), i = ix2 r g := ⟨i 0, i 1, ValueIdx.eq_ix2 i⟩
  refine (ht r g).trans ?_
  rw [if_pos (by have := g.isLt; omega)]
  show row arg (h.unread x) r (run (row arg0 (harg0.unread x0) r) (row arg1 (harg1.unread x1) r) (row arg2 (harg2.unread x2) r) g.val).2 = _
  rw [row_unread arg0 harg0 x0, row_unread arg1 harg1 x1, row_unread arg2 harg2 x2, row_unread arg h x]
  rfl

/-- The kernel's first output is the first coordinate of the chosen points. -/
theorem out_x : out0_A_3 c arg0 harg0 arg1 harg1 arg2 harg2 arg3 harg3 arg4 harg4 arg5 harg5 arg6 harg6 x0 x1 x2 = picked x0 x0 x1 x2 := by
  unfold out0_A_3
  rw [stored_x, whole512_read]
  obtain ⟨f, h⟩ := After.finish c arg0 harg0 arg1 harg1 arg2 harg2 arg3 harg3 arg4 harg4 arg5 harg5 arg6 harg6 x0 x1 x2
  exact table_picked _ _ _ _ _ _ _ _ _ _ _ _ _ h.tx

/-- … its second the second. -/
theorem out_y : out0_A_4 c arg0 harg0 arg1 harg1 arg2 harg2 arg3 harg3 arg4 harg4 arg5 harg5 arg6 harg6 x0 x1 x2 = picked x1 x0 x1 x2 := by
  unfold out0_A_4
  rw [stored_y, whole512_read]
  obtain ⟨f, h⟩ := After.finish c arg0 harg0 arg1 harg1 arg2 harg2 arg3 harg3 arg4 harg4 arg5 harg5 arg6 harg6 x0 x1 x2
  exact table_picked _ _ _ _ _ _ _ _ _ _ _ _ _ h.ty

/-- … its third the third. -/
theorem out_z : out0_A_5 c arg0 harg0 arg1 harg1 arg2 harg2 arg3 harg3 arg4 harg4 arg5 harg5 arg6 harg6 x0 x1 x2 = picked x2 x0 x1 x2 := by
  unfold out0_A_5
  rw [stored_z, whole512_read]
  obtain ⟨f, h⟩ := After.finish c arg0 harg0 arg1 harg1 arg2 harg2 arg3 harg3 arg4 harg4 arg5 harg5 arg6 harg6 x0 x1 x2
  exact table_picked _ _ _ _ _ _ _ _ _ _ _ _ _ h.tz
end

end Cert.KernelIdeal.Sampling
-- ==== Proof.Grouping.lean ====
/-
  The grouping as mathematics: the centres of one batch's points are those that farthest point sampling chooses; every
  point is grouped with the first centre at the least expanded squared distance, and described by its difference from
  it scaled by the distance, the distance, and its given features.
-/
module

public import proofs.«01_k».proof.Proof.Farthest
public import Idealize.ShloMosaic.Lib.Pointwise.Contract

@[expose] public section

noncomputable section

namespace Cert.Grouping

open Idealize.ShloMosaic Cert.Farthest

/-- The steps of farthest point sampling over points given by their three coordinates. -/
def steps (x : Fin 8192 → Fin 3 → EReal) (k : ℕ) : (Fin 8192 → EReal) × Fin 8192 :=
  run (fun n => x n 0) (fun n => x n 1) (fun n => x n 2) k

/-- The centres. -/
def centre (x : Fin 8192 → Fin 3 → EReal) (g : Fin 512) (c : Fin 3) : EReal := x (steps x g.val).2 c

/-- The product of two triples. -/
def dot3 (p q : Fin 3 → EReal) : EReal := p 0 * q 0 + p 1 * q 1 + p 2 * q 2

/-- The expanded squared distance of two triples. -/
def expand (p q : Fin 3 → EReal) : EReal := dot3 p p + dot3 q q - Ideal.ofBits .f32 0x40000000#32 * dot3 p q

/-- The centre of point `n`: the first one at the least expanded squared distance. -/
def nearest (x : Fin 8192 → Fin 3 → EReal) (n : Fin 8192) : Fin 512 := firstMin fun g => expand (x n) (centre x g)

/-- The difference of point `n` from its centre. -/
def offset (x : Fin 8192 → Fin 3 → EReal) (n : Fin 8192) (c : Fin 3) : EReal := x n c - centre x (nearest x n) c

/-- Its length. -/
def length (x : Fin 8192 → Fin 3 → EReal) (n : Fin 8192) : EReal := Ideal.sqrt (dot3 (offset x n) (offset x n))

/-- The difference scaled by its length, or by a small number when the length is smaller. -/
def scaled (x : Fin 8192 → Fin 3 → EReal) (n : Fin 8192) (c : Fin 3) : EReal :=
  Ideal.div (offset x n c) (max (length x n) (Ideal.ofBits .f32 0x322BCC77#32))

/-- What describes point `n`: three scaled differences, the length, and its 64 features `f`. -/
def grouped (x : Fin 8192 → Fin 3 → EReal) (f : Fin 64 → EReal) (n : Fin 8192) (j : Fin 68) : EReal :=
  if h : j.val < 3 then scaled x n ⟨j.val, h⟩ else if j.val < 4 then length x n else f ⟨j.val - 4, by omega⟩

/-- A contraction of one axis read at an element, the operands' indices named. -/
theorem contract_apply {sl sr so : Shape} (d : DotDims sl sr so) {a : Fin sl.rank} (hc : d.lhsContracting = [a]) {K : ℕ} (hK : sl.size a = K)
    (lhs : sl.Idx → EReal) (rhs : sr.Idx → EReal) (j : so.Idx) (L : Fin K → sl.Idx) (R : Fin K → sr.Idx)
    (hL : ∀ k, d.lhsIdx j (d.contrIdx₁ hc hK k) = L k) (hR : ∀ k, d.rhsIdx j (d.contrIdx₁ hc hK k) = R k) :
    ∑ k : d.contr.Idx, lhs (d.lhsIdx j k) * rhs (d.rhsIdx j k) = ∑ k : Fin K, lhs (L k) * rhs (R k) :=
  (d.sum_contr₁ hc hK _).trans (Finset.sum_congr rfl fun k _ => by rw [hL, hR])

end Cert.Grouping
-- ==== Proof.GroupBody.lean ====
/-
  The grouping kernel's block read at its elements, over the extended reals: of every point the number of its centre, its
  difference from it scaled by the distance, and the distance.
-/
module

public import proofs.«01_k».proof.Proof.FrameIdeal
public import proofs.«01_k».proof.Proof.Tracks
public import proofs.«01_k».proof.Proof.Grouping
public import Idealize.ShloMosaic.Lib.WritesUnit
public import Idealize.ShloMosaic.Lib.Pipeline.Value
public import Idealize.ShloMosaic.PureOps.Ideal.Laws

@[expose] public section

noncomputable section

namespace Cert.KernelIdeal.GroupBody

open Cert.KernelIdeal Cert.KernelIdeal.Gen Cert.Farthest Cert.Grouping
open Idealize.ShloMosaic.TcCoe Idealize.ShloMosaic.ValueIdx
open Idealize.ShloMosaic hiding ix1 ix2 ix3 ix4

/-- The kernel's form of the expanded squared distance: the factor minus two on the centre. -/
def spread (p q : Fin 3 → EReal) : EReal :=
  dot3 p p + dot3 q q + dot3 p fun c => q c * Ideal.ofBits .f32 0xC0000000#32

section
variable {F : FTy → Type} [FloatOps F]

/-- The points' squared lengths. -/
def pointNorms (v0 : FVec F S1x2048x3 .f32) : FVec F S1x2048x1 .f32 :=
  let a (i : ℕ) (h : S1x2048x3.Slices ![0, 0, i] S1x2048x1) : FVec F S1x2048x1 .f32 := extractStridedSlice S1x2048x1 ![0, 0, i] v0 h
  addf (addf (mulf (a 0 slices_S1x2048x3_o0_0_0_S1x2048x1) (a 0 slices_S1x2048x3_o0_0_0_S1x2048x1))
    (mulf (a 1 slices_S1x2048x3_o0_0_1_S1x2048x1) (a 1 slices_S1x2048x3_o0_0_1_S1x2048x1)))
    (mulf (a 2 slices_S1x2048x3_o0_0_2_S1x2048x1) (a 2 slices_S1x2048x3_o0_0_2_S1x2048x1))

/-- The centres' squared lengths. -/
def centreNorms (v1 : FVec F S1x3x512 .f32) : FVec F S1x1x512 .f32 :=
  let a (i : ℕ) (h : S1x3x512.Slices ![0, i, 0] S1x1x512) : FVec F S1x1x512 .f32 := extractStridedSlice S1x1x512 ![0, i, 0] v1 h
  addf (addf (mulf (a 0 slices_S1x3x512_o0_0_0_S1x1x512) (a 0 slices_S1x3x512_o0_0_0_S1x1x512))
    (mulf (a 1 slices_S1x3x512_o0_1_0_S1x1x512) (a 1 slices_S1x3x512_o0_1_0_S1x1x512)))
    (mulf (a 2 slices_S1x3x512_o0_2_0_S1x1x512) (a 2 slices_S1x3x512_o0_2_0_S1x1x512))

/-- The table of expanded squared distances. -/
def gaps (v0 : FVec F S1x2048x3 .f32) (v1 : FVec F S1x3x512 .f32) : FVec F S1x2048x512 .f32 :=
  addf (addf (broadcastTo S1x2048x512 (pointNorms v0) broadcasts_S1x2048x1_S1x2048x512)
      (broadcastTo S1x2048x512 (centreNorms v1) broadcasts_S1x1x512_S1x2048x512))
    (matmul dot_S1x2048x3_S1x3x512_S1x2048x512_2_1_1_2_0_0 none v0
      (mulf v1 (broadcast S1x3x512 (Scalar.ofBits .f32 0xC0000000#32))) (constant S1x2048x512 .f32 0x00000000#32))

/-- The least of every row of a table. -/
def leasts (v : FVec F S1x2048x512 .f32) : FVec F S1x2048 .f32 :=
  multiReduction .minimumf [2] S1x2048 v 0x7F800000#32 reduces_S1x2048x512_S1x2048 (.inl rfl) rfl

/-- The columns' numbers. -/
def columns : IVec S1x2048x512 32 := iota .tc S1x2048x512 32 [2] iota_S1x2048x512_d2_w32

/-- Where a table is least along its row the column's number, elsewhere 512. -/
def marks (v : FVec F S1x2048x512 .f32) : IVec S1x2048x512 32 :=
  select (cmpf .oeq v (broadcastTo S1x2048x512 (shapeCast S1x2048x1 (leasts v) shapeCasts_S1x2048_S1x2048x1) broadcasts_S1x2048x1_S1x2048x512))
    columns (broadcast S1x2048x512 512#32)

/-- The least mark of every row, as a column. -/
def firsts (w : IVec S1x2048x512 32) : IVec S1x2048x1 32 :=
  shapeCast S1x2048x1 (multiReductionI .minsi [2] S1x2048 w 2147483647#32 reduces_S1x2048x512_S1x2048 rfl) shapeCasts_S1x2048_S1x2048x1

/-- One at every row's chosen column, zero elsewhere. -/
def chosen (w : IVec S1x2048x1 32) : FVec F S1x2048x512 .f32 :=
  sitofp .f32 (extui 32 (cmpi .eq columns (broadcastTo S1x2048x512 w broadcasts_S1x2048x1_S1x2048x512)) natLt_1_32)

/-- The chosen centres. -/
def takes (w : IVec S1x2048x1 32) (v1 : FVec F S1x3x512 .f32) : FVec F S1x2048x3 .f32 :=
  matmul dot_S1x2048x512_S1x3x512_S1x2048x3_2_2_1_1_0_0 (some .fp32) (chosen w) v1 (constant S1x2048x3 .f32 0x00000000#32)

/-- The kernel's numbers are the first least columns of the table. -/
theorem pay4_eq (v0 : Vec F S1x2048x3 .f32) (v1 : Vec F S1x3x512 .f32) : k1_pay4 v0 v1 = firsts (marks (gaps v0 (k1_pay3 v1))) := rfl

/-- The kernel's differences. -/
theorem pay5_eq (v0 : Vec F S1x2048x3 .f32) (v1 : Vec F S1x3x512 .f32) : k1_pay5 v0 v1 = subf v0 (takes (k1_pay4 v0 v1) (k1_pay3 v1)) := rfl

/-- The kernel's distances. -/
theorem pay1_eq (v0 : Vec F S1x2048x3 .f32) (v1 : Vec F S1x3x512 .f32) :
    k1_pay1 (k1_pay6 v0 v1) (k1_pay7 v0 v1) (k1_pay8 v0 v1) = sqrt (pointNorms (k1_pay5 v0 v1)) := rfl

/-- The kernel's scaled differences. -/
theorem pay2_eq (v0 : Vec F S1x2048x3 .f32) (v1 : Vec F S1x3x512 .f32) :
    k1_pay2 (k1_pay5 v0 v1) (k1_pay6 v0 v1) (k1_pay7 v0 v1) (k1_pay8 v0 v1)
      = divf (k1_pay5 v0 v1) (broadcastTo S1x2048x3 (maximumf (sqrt (pointNorms (k1_pay5 v0 v1))) (broadcast S1x2048x1 (Scalar.ofBits .f32 0x322BCC77#32)))
          broadcasts_S1x2048x1_S1x2048x3) := rfl

end

/-- A column broadcast along the rows reads the column. -/
theorem column_apply {α : Type} (p : S1x2048x1.Idx → α) (n : Fin 2048) (g : Fin 512) :
    broadcastTo S1x2048x512 p broadcasts_S1x2048x1_S1x2048x512 (ix3 0 n g) = p (ix3 0 n 0) :=
  broadcastTo_apply p _ _ _ fun a => match a with | ⟨0, _⟩ => rfl | ⟨1, _⟩ => rfl | ⟨2, _⟩ => rfl

/-- A vector cast to a column reads the vector. -/
theorem toColumn_apply {α : Type} (p : S1x2048.Idx → α) (n : Fin 2048) :
    shapeCast S1x2048x1 p shapeCasts_S1x2048_S1x2048x1 (ix3 0 n 0) = p (ix2 0 n) :=
  shapeCast_apply p _ _ _ (by
    rw [Shape.rowMajor_val_two, Shape.rowMajor_val_three]
    show 0 * 2048 + n.val = (0 * 2048 + n.val) * 1 + 0
    omega)

/-- A point's squared length. -/
theorem pointNorms_apply (v0 : FVec Ideal S1x2048x3 .f32) (n : Fin 2048) :
    pointNorms v0 (ix3 0 n 0) = dot3 (fun c => v0 (ix3 0 n c)) fun c => v0 (ix3 0 n c) := by
  have h (i : ℕ) (hi : i < 3) (hs : S1x2048x3.Slices ![0, 0, i] S1x2048x1) :
      extractStridedSlice S1x2048x1 ![0, 0, i] v0 hs (ix3 0 n 0) = v0 (ix3 0 n ⟨i, hi⟩) :=
    extractStridedSlice_apply _ _ _ _ _ fun a => match a with
      | ⟨0, _⟩ => rfl | ⟨1, _⟩ => (Nat.zero_add _).symm | ⟨2, _⟩ => rfl
  unfold pointNorms
  simp only [addf_apply, mulf_apply]
  rw [h 0 (by decide), h 1 (by decide), h 2 (by decide)]
  rfl

/-- A centre's squared length. -/
theorem centreNorms_apply (v1 : FVec Ideal S1x3x512 .f32) (g : Fin 512) :
    centreNorms v1 (ix3 0 0 g) = dot3 (fun c => v1 (ix3 0 c g)) fun c => v1 (ix3 0 c g) := by
  have h (i : ℕ) (hi : i < 3) (hs : S1x3x512.Slices ![0, i, 0] S1x1x512) :
      extractStridedSlice S1x1x512 ![0, i, 0] v1 hs (ix3 0 0 g) = v1 (ix3 0 ⟨i, hi⟩ g) :=
    extractStridedSlice_apply _ _ _ _ _ fun a => match a with
      | ⟨0, _⟩ => rfl | ⟨1, _⟩ => rfl | ⟨2, _⟩ => (Nat.zero_add _).symm
  unfold centreNorms
  simp only [addf_apply, mulf_apply]
  rw [h 0 (by decide), h 1 (by decide), h 2 (by decide)]
  rfl

/-- The product of points and centres at an element. -/
theorem dot_apply (v0 : FVec Ideal S1x2048x3 .f32) (v : FVec Ideal S1x3x512 .f32) (n : Fin 2048) (g : Fin 512) :
    matmul (F := Ideal) dot_S1x2048x3_S1x3x512_S1x2048x512_2_1_1_2_0_0 none v0 v (constant S1x2048x512 .f32 0x00000000#32) (ix3 0 n g)
      = dot3 (fun c => v0 (ix3 0 n c)) fun c => v (ix3 0 c g) := by
  simp only [matmul]
  refine (Ideal.matmul_constant_zero_apply _ _ _ _ _).trans ?_
  refine (contract_apply dot_S1x2048x3_S1x3x512_S1x2048x512_2_1_1_2_0_0 (a := 2) rfl (K := 3) rfl v0 v (ix3 0 n g)
    (fun c => ix3 0 n c) (fun c => ix3 0 c g) (fun c => ?_) (fun c => ?_)).trans ?_
  · funext a; match a with | ⟨0, _⟩ => rfl | ⟨1, _⟩ => rfl | ⟨2, _⟩ => rfl
  · funext a; match a with | ⟨0, _⟩ => rfl | ⟨1, _⟩ => rfl | ⟨2, _⟩ => rfl
  · rw [Fin.sum_univ_three]; rfl

/-- The table of expanded squared distances at an element. -/
theorem gaps_apply (v0 : FVec Ideal S1x2048x3 .f32) (v1 : FVec Ideal S1x3x512 .f32) (n : Fin 2048) (g : Fin 512) :
    gaps v0 v1 (ix3 0 n g) = spread (fun c => v0 (ix3 0 n c)) fun c => v1 (ix3 0 c g) := by
  unfold gaps
  rw [addf_apply, addf_apply, column_apply, pointNorms_apply, dot_apply,
    broadcastTo_apply (centreNorms v1) _ _ (ix3 0 0 g) (fun a => match a with | ⟨0, _⟩ => rfl | ⟨1, _⟩ => rfl | ⟨2, _⟩ => rfl),
    centreNorms_apply]
  rfl

/-- The index of column `g` over row `n`. -/
theorem lift_column (n : Fin 2048) (g : Fin 512) : reduces_S1x2048x512_S1x2048.lift (ix2 0 n) g = ix3 0 n g := by
  funext a; match a with | ⟨0, _⟩ => rfl | ⟨1, _⟩ => rfl | ⟨2, _⟩ => rfl

/-- The least of a row. -/
theorem leasts_apply (v : FVec Ideal S1x2048x512 .f32) (n : Fin 2048) :
    leasts v (ix2 0 n) = (Finset.univ : Finset (Fin 512)).inf fun g => v (ix3 0 n g) := by
  refine (multiReduction_minimumf_eq_fold v _ reduces_S1x2048x512_S1x2048 _ _ (ix2 0 n)).trans ?_
  refine (reduces_S1x2048x512_S1x2048.fold_filter_drop_single _ _ v (ix2 0 n)).trans ?_
  have h : (FloatOps.ofBits (F := Ideal) .f32 0x7F800000#32) = (⊤ : EReal) := by simp [Ideal.ofBits, Ideal.ieee]
  rw [h]
  show Finset.univ.inf _ = _
  refine Finset.inf_congr rfl fun g _ => ?_
  exact congrArg v (lift_column n g)

/-- The signed minimum along a row. -/
theorem firsts_apply (w : IVec S1x2048x512 32) (n : Fin 2048) :
    firsts w (ix3 0 n 0) = (Finset.univ : Finset (Fin 512)).fold IntOp.minsi 2147483647#32 fun g => w (ix3 0 n g) := by
  unfold firsts
  rw [toColumn_apply]
  refine (multiReductionI_eq_fold .minsi w _ reduces_S1x2048x512_S1x2048 rfl (ix2 0 n)).trans ?_
  refine (reduces_S1x2048x512_S1x2048.fold_filter_drop_single IKind.minsi.op _ w (ix2 0 n)).trans ?_
  have e : (w ∘ reduces_S1x2048x512_S1x2048.lift (ix2 0 n)) = fun g => w (ix3 0 n g) := funext fun g => congrArg w (lift_column n g)
  rw [e]
  rfl

/-- A column's number. -/
theorem columns_apply (n : Fin 2048) (g : Fin 512) : columns (ix3 0 n g) = BitVec.ofNat 32 g.val := by
  show BitVec.ofNat 32 (0 * 512 + g.val) = _
  rw [Nat.zero_mul, Nat.zero_add]

open Classical in
/-- A mark: the column's number if the row is least there. -/
theorem marks_apply (v : FVec Ideal S1x2048x512 .f32) (n : Fin 2048) (g : Fin 512) :
    marks v (ix3 0 n g) = BitVec.ofNat 32 (if ∀ m, v (ix3 0 n g) ≤ v (ix3 0 n m) then g.val else 512) := by
  unfold marks
  rw [select_apply, cmpf_apply, column_apply, toColumn_apply, leasts_apply, columns_apply]
  show Scalar.select (BitVec.ofBool (decide (v (ix3 0 n g) = _))) _ 512#32 = _
  rw [select_ofBool]
  have h : v (ix3 0 n g) = ((Finset.univ : Finset (Fin 512)).inf fun g => v (ix3 0 n g)) ↔ ∀ m, v (ix3 0 n g) ≤ v (ix3 0 n m) :=
    ⟨fun e m => e.le.trans (Finset.inf_le (f := fun g => v (ix3 0 n g)) (Finset.mem_univ m)),
      fun e => le_antisymm (Finset.le_inf fun m _ => e m) (Finset.inf_le (f := fun g => v (ix3 0 n g)) (Finset.mem_univ g))⟩
  simp only [h]
  split <;> rfl

/-- A row's least mark is the number of the first column the row is least at. -/
theorem firsts_marks (v : FVec Ideal S1x2048x512 .f32) (n : Fin 2048) :
    firsts (marks v) (ix3 0 n 0) = BitVec.ofNat 32 (firstMin fun g => v (ix3 0 n g)).val := by
  classical
  rw [firsts_apply]
  have hm := firstMin_spec fun g => v (ix3 0 n g)
  generalize (firstMin fun g => v (ix3 0 n g)) = m at hm
  obtain ⟨i, -, hfold, hi⟩ := fold_minsi_small (Finset.univ : Finset (Fin 512))
    (fun g => if ∀ m, v (ix3 0 n g) ≤ v (ix3 0 n m) then g.val else 512) (fun g => marks v (ix3 0 n g))
    (fun g => by have := g.isLt; split <;> omega) (fun g => marks_apply v n g) ⟨0, Finset.mem_univ _⟩
  rw [hfold, marks_apply]
  have him := hi m (Finset.mem_univ m)
  simp only [if_pos (show ∀ k, v (ix3 0 n m) ≤ v (ix3 0 n k) from hm.1)] at him
  by_cases h : ∀ k, v (ix3 0 n i) ≤ v (ix3 0 n k)
  · rw [if_pos h] at him ⊢
    rcases lt_or_eq_of_le him with h' | h'
    · exact absurd h (hm.2 i h')
    · rw [h']
  · rw [if_neg h] at him
    have := m.isLt
    omega

/-- The chosen column's entry of a row of ones and zeros. -/
theorem chosen_apply (w : IVec S1x2048x1 32) (n : Fin 2048) (k : Fin 512) (hw : w (ix3 0 n 0) = BitVec.ofNat 32 k.val) (g : Fin 512) :
    chosen (F := Ideal) w (ix3 0 n g) = if g = k then (1 : EReal) else 0 := by
  unfold chosen
  rw [sitofp_apply, extui_apply]
  show FloatOps.sitofp (F := Ideal) .f32 ((IntOp.cmpi .eq (columns (ix3 0 n g)) (broadcastTo S1x2048x512 w broadcasts_S1x2048x1_S1x2048x512 (ix3 0 n g))).setWidth 32) = _
  rw [columns_apply, column_apply, hw, eq_small (by have := g.isLt; omega) (by have := k.isLt; omega)]
  by_cases h : g = k
  · rw [if_pos h, h, decide_eq_true rfl]
    show (((1#32 : BitVec 32).toInt : ℝ) : EReal) = 1
    rw [show (1#32 : BitVec 32).toInt = 1 from by decide]; simp
  · rw [if_neg h]
    have h' : ¬ g.val = k.val := fun e => h (Fin.ext e)
    rw [decide_eq_false h']
    show (((0#32 : BitVec 32).toInt : ℝ) : EReal) = 0
    simp

/-- The chosen centre. -/
theorem takes_apply (w : IVec S1x2048x1 32) (v1 : FVec Ideal S1x3x512 .f32) (n : Fin 2048) (k : Fin 512)
    (hw : w (ix3 0 n 0) = BitVec.ofNat 32 k.val) (c : Fin 3) : takes w v1 (ix3 0 n c) = v1 (ix3 0 c k) := by
  unfold takes
  simp only [matmul]
  refine (Ideal.matmul_constant_zero_apply _ _ _ _ _).trans ?_
  refine (contract_apply dot_S1x2048x512_S1x3x512_S1x2048x3_2_2_1_1_0_0 (a := 2) rfl (K := 512) rfl (chosen (F := Ideal) w) v1 (ix3 0 n c)
    (fun g => ix3 0 n g) (fun g => ix3 0 c g) (fun g => ?_) (fun g => ?_)).trans ?_
  · funext a; match a with | ⟨0, _⟩ => rfl | ⟨1, _⟩ => rfl | ⟨2, _⟩ => rfl
  · funext a; match a with | ⟨0, _⟩ => rfl | ⟨1, _⟩ => rfl | ⟨2, _⟩ => rfl
  · simp only [chosen_apply w n k hw, ite_mul, one_mul, zero_mul]
    rw [Finset.sum_ite_eq' Finset.univ k]
    exact if_pos (Finset.mem_univ k)

section
variable (v0 : Vec Ideal S1x2048x3 .f32) (v1 : Vec Ideal S1x3x512 .f32) (n : Fin 2048)

/-- The centre the kernel chooses for a point. -/
def pick : Fin 512 := firstMin fun g => spread (fun c => v0 (ix3 0 n c)) fun c => v1 (ix3 0 c g)

/-- The difference from it. -/
def diff (c : Fin 3) : EReal := (v0 (ix3 0 n c) : EReal) - v1 (ix3 0 c (pick v0 v1 n))

/-- The kernel's number. -/
theorem pay4_apply : k1_pay4 v0 v1 (ix3 0 n 0) = BitVec.ofNat 32 (pick v0 v1 n).val := by
  rw [pay4_eq, firsts_marks]
  have e : k1_pay3 v1 = v1 := shapeCast_self _ _
  simp only [gaps_apply, e]
  rfl

/-- The kernel's difference. -/
theorem pay5_apply (c : Fin 3) : k1_pay5 v0 v1 (ix3 0 n c) = diff v0 v1 n c := by
  have e : k1_pay3 v1 = v1 := shapeCast_self _ _
  rw [pay5_eq, subf_apply, takes_apply _ _ n (pick v0 v1 n) (pay4_apply v0 v1 n), e]
  rfl

/-- The kernel's distance. -/
theorem pay1_apply : k1_pay1 (k1_pay6 v0 v1) (k1_pay7 v0 v1) (k1_pay8 v0 v1) (ix3 0 n 0) = Ideal.sqrt (dot3 (diff v0 v1 n) (diff v0 v1 n)) := by
  rw [pay1_eq]
  show Ideal.sqrt (pointNorms (k1_pay5 v0 v1) (ix3 0 n 0)) = _
  rw [pointNorms_apply]
  simp only [pay5_apply]

/-- The kernel's scaled difference. -/
theorem pay2_apply (c : Fin 3) : k1_pay2 (k1_pay5 v0 v1) (k1_pay6 v0 v1) (k1_pay7 v0 v1) (k1_pay8 v0 v1) (ix3 0 n c)
    = Ideal.div (diff v0 v1 n c) (max (Ideal.sqrt (dot3 (diff v0 v1 n) (diff v0 v1 n))) (Ideal.ofBits .f32 0x322BCC77#32)) := by
  rw [pay2_eq, divf_apply, broadcastTo_apply _ _ _ (ix3 0 n 0) (fun a => match a with | ⟨0, _⟩ => rfl | ⟨1, _⟩ => rfl | ⟨2, _⟩ => rfl), pay5_apply,
    maximumf_apply, ← pay1_eq, pay1_apply]
  rfl

end

section
variable {F : FTy → Type} [FloatOps F]
variable (c : Dev nD) (i : grid1.Coords) (arg2 : Memref sig .tc .vmem S1x2048x3 .f32) (harg2 : arg2.IsWhole) (arg3 : Memref sig .tc .vmem S1x2048x64 .f32) (harg3 : arg3.IsWhole) (arg4 : Memref sig .tc .vmem S1x3x512 .f32) (harg4 : arg4.IsWhole) (arg5 : Memref sig .tc .vmem S1x2048x68 .f32) (harg5 : arg5.IsWhole) (arg6 : Memref sig .tc .vmem S1x2048x1 .i32) (harg6 : arg6.IsWhole)
  (x0 : Vec F S1x2048x3 .f32) (x1 : Vec F S1x2048x64 .f32) (x2 : Vec F S1x3x512 .f32)

/-- The loads of the three inputs. -/
abbrev points : Vec F S1x2048x3 .f32 :=
  View.readAt (Elt F) arg2.view (Rect.unit (s := S1x2048x3) ![0, 0, 0] S1x2048x3.size inb_S1x2048x3_S1x2048x3_0_0_0).toLoadRect (harg2.unread x0)
/-- … the features … -/
abbrev features : Vec F S1x2048x64 .f32 :=
  View.readAt (Elt F) arg3.view (Rect.unit (s := S1x2048x64) ![0, 0, 0] S1x2048x64.size inb_S1x2048x64_S1x2048x64_0_0_0).toLoadRect (harg3.unread x1)
/-- … and the centres. -/
abbrev centres : Vec F S1x3x512 .f32 :=
  View.readAt (Elt F) arg4.view (Rect.unit (s := S1x3x512) ![0, 0, 0] S1x3x512.size inb_S1x3x512_S1x3x512_0_0_0).toLoadRect (harg4.unread x2)

/-- What the kernel stores into its first output. -/
theorem stored_groups : (kernelRun1_A c i arg2 harg2 arg3 harg3 arg4 harg4 arg5 harg5 arg6 harg6 x0 x1 x2).1
    = [⟨Rect.unit (s := S1x2048x68) ![0, 0, 4] S1x2048x64.size inb_S1x2048x68_S1x2048x64_0_0_4, features arg3 harg3 x1⟩,
      ⟨Rect.unit (s := S1x2048x68) ![0, 0, 3] S1x2048x1.size inb_S1x2048x68_S1x2048x1_0_0_3,
        k1_pay1 (k1_pay6 (points arg2 harg2 x0) (centres arg4 harg4 x2)) (k1_pay7 (points arg2 harg2 x0) (centres arg4 harg4 x2)) (k1_pay8 (points arg2 harg2 x0) (centres arg4 harg4 x2))⟩,
      ⟨Rect.unit (s := S1x2048x68) ![0, 0, 0] S1x2048x3.size inb_S1x2048x68_S1x2048x3_0_0_0,
        k1_pay2 (k1_pay5 (points arg2 harg2 x0) (centres arg4 harg4 x2)) (k1_pay6 (points arg2 harg2 x0) (centres arg4 harg4 x2)) (k1_pay7 (points arg2 harg2 x0) (centres arg4 harg4 x2)) (k1_pay8 (points arg2 harg2 x0) (centres arg4 harg4 x2))⟩] := by
  sl_kernel_rfl

/-- What it stores into its second. -/
theorem stored_numbers : (kernelRun1_A c i arg2 harg2 arg3 harg3 arg4 harg4 arg5 harg5 arg6 harg6 x0 x1 x2).2.1
    = [⟨Rect.unit (s := S1x2048x1) ![0, 0, 0] S1x2048x1.size inb_S1x2048x1_S1x2048x1_0_0_0, k1_pay4 (points arg2 harg2 x0) (centres arg4 harg4 x2)⟩] := by
  sl_kernel_rfl

/-- A whole block's load reads what the buffer holds. -/
theorem load_whole {s : Shape} {e : EltTy} (m : Memref sig .tc .vmem s e) (h : m.IsWhole) (x : Vec F s e) (off : Fin s.rank → ℕ)
    (inb : ∀ a, off a + s.size a ≤ s.size a) : View.readAt (Elt F) m.view (Rect.unit (s := s) off s.size inb).toLoadRect (h.unread x) = x := by
  refine Eq.trans ?_ (h.read_unread x)
  funext j
  show m.view.read (Elt F) _ _ = m.view.read (Elt F) _ j
  congr 1
  funext a
  apply Fin.ext
  show off a + 1 * (j a).val = (j a).val
  have := inb a
  omega

end

section
variable (c : Dev nD) (i : grid1.Coords) (arg2 : Memref sig .tc .vmem S1x2048x3 .f32) (harg2 : arg2.IsWhole) (arg3 : Memref sig .tc .vmem S1x2048x64 .f32) (harg3 : arg3.IsWhole) (arg4 : Memref sig .tc .vmem S1x3x512 .f32) (harg4 : arg4.IsWhole) (arg5 : Memref sig .tc .vmem S1x2048x68 .f32) (harg5 : arg5.IsWhole) (arg6 : Memref sig .tc .vmem S1x2048x1 .i32) (harg6 : arg6.IsWhole)
  (x0 : Vec Ideal S1x2048x3 .f32) (x1 : Vec Ideal S1x2048x64 .f32) (x2 : Vec Ideal S1x3x512 .f32)

/-- Columns 0 to 2, column 3 and the rest of a block stored in three pieces. -/
theorem pieces_apply (v : View sig .tc .vmem S1x2048x68 .f32) (X : v.ty.Contents (Elt Ideal)) (A : Vec Ideal S1x2048x3 .f32)
    (B : Vec Ideal S1x2048x1 .f32) (C : Vec Ideal S1x2048x64 .f32) (n : Fin 2048) (j : Fin 68) :
    v.read (Elt Ideal) (v.writes (Elt Ideal) X [⟨Rect.unit (s := S1x2048x68) ![0, 0, 4] S1x2048x64.size inb_S1x2048x68_S1x2048x64_0_0_4, C⟩,
      ⟨Rect.unit (s := S1x2048x68) ![0, 0, 3] S1x2048x1.size inb_S1x2048x68_S1x2048x1_0_0_3, B⟩,
      ⟨Rect.unit (s := S1x2048x68) ![0, 0, 0] S1x2048x3.size inb_S1x2048x68_S1x2048x3_0_0_0, A⟩]) (ix3 0 n j)
      = if h : j.val < 3 then A (ix3 0 n ⟨j.val, h⟩) else if j.val < 4 then B (ix3 0 n 0) else C (ix3 0 n ⟨j.val - 4, by omega⟩) := by
  by_cases h4 : j.val < 4
  · refine (View.read_writes_cons_unit_of_not_mem (s := S1x2048x68) (off' := ![0, 0, 4]) v X _ _ _ (ix3 0 n j) rfl 2 (.inl h4)).trans ?_
    by_cases h3 : j.val < 3
    · refine (View.read_writes_cons_unit_of_not_mem (s := S1x2048x68) (off' := ![0, 0, 3]) v X _ _ _ (ix3 0 n j) rfl 2 (.inl h3)).trans ?_
      rw [dif_pos h3]
      exact View.read_writes_cons_unit_of_mem (s := S1x2048x68) (off' := ![0, 0, 0]) v X _ _ _ (ix3 0 n j) (ix3 0 n ⟨j.val, h3⟩) rfl
        fun a => match a with | ⟨0, _⟩ => rfl | ⟨1, _⟩ => (Nat.zero_add _).symm | ⟨2, _⟩ => (Nat.zero_add _).symm
    · rw [dif_neg h3, if_pos h4]
      exact View.read_writes_cons_unit_of_mem (s := S1x2048x68) (off' := ![0, 0, 3]) v X _ _ _ (ix3 0 n j) (ix3 0 n 0) rfl
        fun a => match a with
          | ⟨0, _⟩ => rfl | ⟨1, _⟩ => (Nat.zero_add _).symm | ⟨2, _⟩ => by show j.val = 3 + 0; omega
  · rw [dif_neg (by omega), if_neg h4]
    exact View.read_writes_cons_unit_of_mem (s := S1x2048x68) (off' := ![0, 0, 4]) v X _ _ _ (ix3 0 n j) (ix3 0 n ⟨j.val - 4, by omega⟩) rfl
      fun a => match a with
        | ⟨0, _⟩ => rfl | ⟨1, _⟩ => (Nat.zero_add _).symm | ⟨2, _⟩ => by show j.val = 4 + (j.val - 4); omega

variable (x : Fin 8192 → Fin 3 → EReal) (p : Fin 8192) (n : Fin 2048) (h0 : ∀ k, x0 (ix3 0 n k) = x p k)
  (h2 : ∀ k g, x2 (ix3 0 k g) = centre x g k) (hs : ∀ g, spread (x p) (centre x g) = expand (x p) (centre x g))

include h0 h2 hs in
/-- The kernel's choice is the nearest centre. -/
theorem pick_eq : pick x0 x2 n = nearest x p := by
  unfold pick nearest
  simp only [h0, h2]
  exact congrArg firstMin (funext hs)

include h0 h2 hs in
/-- The kernel's difference is the offset. -/
theorem diff_eq : diff x0 x2 n = offset x p := by
  funext k
  unfold diff offset
  rw [pick_eq x0 x2 x p n h0 h2 hs, h0, h2]

include h0 h2 hs in
/-- The kernel's first output describes its points. -/
theorem out_groups (f : Fin 64 → EReal) (h1 : ∀ k, x1 (ix3 0 n k) = f k) (j : Fin 68) :
    out1_A_3 c i arg2 harg2 arg3 harg3 arg4 harg4 arg5 harg5 arg6 harg6 x0 x1 x2 (ix3 0 n j) = grouped x f p j := by
  unfold out1_A_3
  have e0 : points arg2 harg2 x0 = x0 := load_whole arg2 harg2 x0 _ _
  have e1 : features arg3 harg3 x1 = x1 := load_whole arg3 harg3 x1 _ _
  have e2 : centres arg4 harg4 x2 = x2 := load_whole arg4 harg4 x2 _ _
  rw [stored_groups, e0, e1, e2, pieces_apply]
  simp only [pay1_apply, pay2_apply, diff_eq x0 x2 x p n h0 h2 hs, h1]
  rfl

include h0 h2 hs in
/-- The kernel's second output numbers their centres. -/
theorem out_numbers : out1_A_4 c i arg2 harg2 arg3 harg3 arg4 harg4 arg5 harg5 arg6 harg6 x0 x1 x2 (ix3 0 n 0) = BitVec.ofNat 32 (nearest x p).val := by
  unfold out1_A_4
  have e0 : points arg2 harg2 x0 = x0 := load_whole arg2 harg2 x0 _ _
  have e2 : centres arg4 harg4 x2 = x2 := load_whole arg4 harg4 x2 _ _
  rw [stored_numbers, e0, e2]
  refine (View.read_writes_cons_unit_of_mem (s := S1x2048x1) (off' := ![0, 0, 0]) _ _ _ _ _ (ix3 0 n 0) (ix3 0 n 0) rfl
    fun a => match a with | ⟨0, _⟩ => rfl | ⟨1, _⟩ => (Nat.zero_add _).symm | ⟨2, _⟩ => rfl).trans ?_
  rw [pay4_apply, pick_eq x0 x2 x p n h0 h2 hs]

end

/-- Of finite triples the kernel's form is the expanded squared distance. -/
theorem spread_eq (p q : Fin 3 → EReal) (hp : ∀ k, p k ≠ ⊤ ∧ p k ≠ ⊥) (hq : ∀ k, q k ≠ ⊤ ∧ q k ≠ ⊥) : spread p q = expand p q := by
  have h2 : Ideal.ofBits .f32 0x40000000#32 = ((2 : ℝ) : EReal) := by simp [Ideal.ofBits, Ideal.ieee]; rw [← EReal.coe_mul]; norm_num
  have hm : Ideal.ofBits .f32 0xC0000000#32 = ((-2 : ℝ) : EReal) := by simp [Ideal.ofBits, Ideal.ieee]; rw [← EReal.coe_mul]; norm_num
  obtain ⟨u, rfl⟩ : ∃ u : Fin 3 → ℝ, p = fun k => ((u k : ℝ) : EReal) :=
    ⟨fun k => (p k).toReal, funext fun k => (EReal.coe_toReal (hp k).1 (hp k).2).symm⟩
  obtain ⟨v, rfl⟩ : ∃ v : Fin 3 → ℝ, q = fun k => ((v k : ℝ) : EReal) :=
    ⟨fun k => (q k).toReal, funext fun k => (EReal.coe_toReal (hq k).1 (hq k).2).symm⟩
  unfold spread expand dot3
  rw [h2, hm]
  simp only [← EReal.coe_mul, ← EReal.coe_add, ← EReal.coe_sub]
  congr 1
  ring

end Cert.KernelIdeal.GroupBody
-- ==== Proof.KernelArrays.lean ====
/-
  The arrays of the kernel program, over the extended reals: what the host's stretches and the two kernels leave in them.
-/
module

public import proofs.«01_k».proof.Proof.SampleValue
public import proofs.«01_k».proof.Proof.GroupBody

@[expose] public section

set_option maxRecDepth 100000

noncomputable section

namespace Cert.KernelIdeal.Arrays

open Cert.KernelIdeal Cert.KernelIdeal.Gen Cert.Farthest Cert.Grouping Cert.KernelIdeal.Sampling
open Idealize.ShloMosaic.TcCoe Idealize.ShloMosaic.ValueIdx Idealize.SL.Sem Idealize.ShloMosaic.StableHlo
open Idealize.ShloMosaic hiding ix1 ix2 ix3 ix4

section
variable {F : FTy → Type} [FloatOps F] (V : Valuation τ sig (Elt F))

/-- One coordinate of every point. -/
def coord (i : ℕ) (h : S16x8192x3.Slices ![0, 0, i] S16x8192x1) (x : FVec F S16x8192x3 .f32) : FVec F S16x8192 .f32 :=
  shapeCast S16x8192 (extractStridedSlice S16x8192x1 ![0, 0, i] x h) shapeCasts_S16x8192x1_S16x8192

/-- The first kernel's first input: the first coordinates. -/
theorem host0_x : after hostOps0 V (Proc.devRef .tc main_v1) = (coord 0 slices_S16x8192x3_S16x8192x1_0_0_0 (V (Proc.devRef .tc main_arg0)) : FVec F S16x8192 .f32) := by
  after_results <;> rfl

/-- Its second: the second coordinates. -/
theorem host0_y : after hostOps0 V (Proc.devRef .tc main_v3) = (coord 1 slices_S16x8192x3_S16x8192x1_0_0_1 (V (Proc.devRef .tc main_arg0)) : FVec F S16x8192 .f32) := by
  after_results <;> rfl

/-- Its third: the third. -/
theorem host0_z : after hostOps0 V (Proc.devRef .tc main_v5) = (coord 2 slices_S16x8192x3_S16x8192x1_0_0_2 (V (Proc.devRef .tc main_arg0)) : FVec F S16x8192 .f32) := by
  after_results <;> rfl

/-- Three tables as the last axis of one array. -/
def lastAxis (a b c : FVec F S16x512 .f32) : FVec F S16x512x3 .f32 :=
  concatenate S16x512x3 2 [⟨S16x512x1, broadcastInDim S16x512x1 ![0, 1] bcast_S16x512_S16x512x1_0_1 a⟩, ⟨S16x512x1, broadcastInDim S16x512x1 ![0, 1] bcast_S16x512_S16x512x1_0_1 b⟩,
    ⟨S16x512x1, broadcastInDim S16x512x1 ![0, 1] bcast_S16x512_S16x512x1_0_1 c⟩] concatenates_S16x512x1_S16x512x1_S16x512x1_S16x512x3_d2

/-- Three tables as the middle axis of one array. -/
def middleAxis (a b c : FVec F S16x512 .f32) : FVec F S16x3x512 .f32 :=
  concatenate S16x3x512 1 [⟨S16x1x512, broadcastInDim S16x1x512 ![0, 2] bcast_S16x512_S16x1x512_0_2 a⟩, ⟨S16x1x512, broadcastInDim S16x1x512 ![0, 2] bcast_S16x512_S16x1x512_0_2 b⟩,
    ⟨S16x1x512, broadcastInDim S16x1x512 ![0, 2] bcast_S16x512_S16x1x512_0_2 c⟩] concatenates_S16x1x512_S16x1x512_S16x1x512_S16x3x512_d1

/-- The program's second result. -/
theorem host1_centres : after hostOps1 V (Proc.devRef .tc main_v10)
    = lastAxis (V (Proc.devRef .tc main_v6_0) : FVec F S16x512 .f32) (V (Proc.devRef .tc main_v6_1)) (V (Proc.devRef .tc main_v6_2)) := by
  after_results <;> rfl

/-- The second kernel's centres. -/
theorem host1_across : after hostOps1 V (Proc.devRef .tc main_v14)
    = middleAxis (V (Proc.devRef .tc main_v6_0) : FVec F S16x512 .f32) (V (Proc.devRef .tc main_v6_1)) (V (Proc.devRef .tc main_v6_2)) := by
  after_results <;> rfl

/-- The program's third result. -/
theorem host2_numbers : after hostOps2 V (Proc.devRef .tc main_v16)
    = shapeCast S16x8192 (V (Proc.devRef .tc main_v15_1) : IVec S16x8192x1 32) shapeCasts_S16x8192x1_S16x8192 := by
  after_results <;> rfl

end

/-- A column cast to a vector reads the column. -/
theorem fromColumn_apply {α : Type} (p : S16x8192x1.Idx → α) (r : Fin 16) (n : Fin 8192) :
    shapeCast S16x8192 p shapeCasts_S16x8192x1_S16x8192 (ix2 r n) = p (ix3 r n 0) :=
  shapeCast_apply p _ _ _ (by
    rw [Shape.rowMajor_val_two, Shape.rowMajor_val_three]
    show (r.val * 8192 + n.val) * 1 + 0 = r.val * 8192 + n.val
    omega)

/-- A coordinate at an element. -/
theorem coord_apply (i : ℕ) (hi : i < 3) (h : S16x8192x3.Slices ![0, 0, i] S16x8192x1) (x : FVec Ideal S16x8192x3 .f32) (r : Fin 16) (n : Fin 8192) :
    coord i h x (ix2 r n) = x (ix3 r n ⟨i, hi⟩) := by
  unfold coord
  rw [fromColumn_apply]
  exact extractStridedSlice_apply _ _ _ _ _ fun a => match a with
    | ⟨0, _⟩ => (Nat.zero_add _).symm | ⟨1, _⟩ => (Nat.zero_add _).symm | ⟨2, _⟩ => rfl

/-- Three arrays of one column joined along the last axis, read at an element. -/
theorem joined_last (A B C : S16x512x1.Idx → EReal)
    (h : Shape.Concatenates ([⟨S16x512x1, A⟩, ⟨S16x512x1, B⟩, ⟨S16x512x1, C⟩].map (fun p : (s : Shape) × (s.Idx → EReal) => p.1)) S16x512x3 2)
    (r : Fin 16) (g : Fin 512) (k : Fin 3) :
    concatenate S16x512x3 2 [⟨S16x512x1, A⟩, ⟨S16x512x1, B⟩, ⟨S16x512x1, C⟩] h (ix3 r g k) = (![A, B, C] : Fin 3 → S16x512x1.Idx → EReal) k (ix3 r g 0) := by
  have off : ∀ b : Fin 3, b ≠ 2 → ((ix3 r g (0 : Fin 1) : S16x512x1.Idx) b).val = ((ix3 r g k : S16x512x3.Idx) b).val := fun b hb => match b with
    | ⟨0, _⟩ => rfl
    | ⟨1, _⟩ => rfl
    | ⟨2, _⟩ => absurd rfl hb
  match k with
  | 0 => exact concatenate_apply_piece (t := S16x512x3) 2 [⟨S16x512x1, A⟩, ⟨S16x512x1, B⟩, ⟨S16x512x1, C⟩] h (ix3 r g 0) 0 (by simp) S16x512x1 A rfl rfl 0 rfl (ix3 r g 0) off rfl
  | 1 => exact concatenate_apply_piece (t := S16x512x3) 2 [⟨S16x512x1, A⟩, ⟨S16x512x1, B⟩, ⟨S16x512x1, C⟩] h (ix3 r g 1) 1 (by simp) S16x512x1 B rfl rfl 1 rfl (ix3 r g 0) off rfl
  | 2 => exact concatenate_apply_piece (t := S16x512x3) 2 [⟨S16x512x1, A⟩, ⟨S16x512x1, B⟩, ⟨S16x512x1, C⟩] h (ix3 r g 2) 2 (by simp) S16x512x1 C rfl rfl 2 rfl (ix3 r g 0) off rfl

/-- Three arrays of one row joined along the middle axis, read at an element. -/
theorem joined_middle (A B C : S16x1x512.Idx → EReal)
    (h : Shape.Concatenates ([⟨S16x1x512, A⟩, ⟨S16x1x512, B⟩, ⟨S16x1x512, C⟩].map (fun p : (s : Shape) × (s.Idx → EReal) => p.1)) S16x3x512 1)
    (r : Fin 16) (k : Fin 3) (g : Fin 512) :
    concatenate S16x3x512 1 [⟨S16x1x512, A⟩, ⟨S16x1x512, B⟩, ⟨S16x1x512, C⟩] h (ix3 r k g) = (![A, B, C] : Fin 3 → S16x1x512.Idx → EReal) k (ix3 r 0 g) := by
  have off : ∀ b : Fin 3, b ≠ 1 → ((ix3 r (0 : Fin 1) g : S16x1x512.Idx) b).val = ((ix3 r k g : S16x3x512.Idx) b).val := fun b hb => match b with
    | ⟨0, _⟩ => rfl
    | ⟨1, _⟩ => absurd rfl hb
    | ⟨2, _⟩ => rfl
  match k with
  | 0 => exact concatenate_apply_piece (t := S16x3x512) 1 [⟨S16x1x512, A⟩, ⟨S16x1x512, B⟩, ⟨S16x1x512, C⟩] h (ix3 r 0 g) 0 (by simp) S16x1x512 A rfl rfl 0 rfl (ix3 r 0 g) off rfl
  | 1 => exact concatenate_apply_piece (t := S16x3x512) 1 [⟨S16x1x512, A⟩, ⟨S16x1x512, B⟩, ⟨S16x1x512, C⟩] h (ix3 r 1 g) 1 (by simp) S16x1x512 B rfl rfl 1 rfl (ix3 r 0 g) off rfl
  | 2 => exact concatenate_apply_piece (t := S16x3x512) 1 [⟨S16x1x512, A⟩, ⟨S16x1x512, B⟩, ⟨S16x1x512, C⟩] h (ix3 r 2 g) 2 (by simp) S16x1x512 C rfl rfl 2 rfl (ix3 r 0 g) off rfl

/-- … of three tables. -/
theorem lastAxis_apply (a b c : FVec Ideal S16x512 .f32) (r : Fin 16) (g : Fin 512) (k : Fin 3) :
    lastAxis a b c (ix3 r g k) = (![a, b, c] : Fin 3 → FVec Ideal S16x512 .f32) k (ix2 r g) := by
  have h (x : FVec Ideal S16x512 .f32) : broadcastInDim S16x512x1 ![0, 1] bcast_S16x512_S16x512x1_0_1 x (ix3 r g 0) = x (ix2 r g) :=
    broadcastInDim_apply _ _ _ _ _ fun a => match a with | ⟨0, _⟩ => rfl | ⟨1, _⟩ => rfl
  refine (joined_last _ _ _ _ r g k).trans ?_
  match k with
  | 0 => exact h a
  | 1 => exact h b
  | 2 => exact h c

/-- … of three tables. -/
theorem middleAxis_apply (a b c : FVec Ideal S16x512 .f32) (r : Fin 16) (k : Fin 3) (g : Fin 512) :
    middleAxis a b c (ix3 r k g) = (![a, b, c] : Fin 3 → FVec Ideal S16x512 .f32) k (ix2 r g) := by
  have h (x : FVec Ideal S16x512 .f32) : broadcastInDim S16x1x512 ![0, 2] bcast_S16x512_S16x1x512_0_2 x (ix3 r 0 g) = x (ix2 r g) :=
    broadcastInDim_apply _ _ _ _ _ fun a => match a with | ⟨0, _⟩ => rfl | ⟨1, _⟩ => rfl
  refine (joined_middle _ _ _ _ r k g).trans ?_
  match k with
  | 0 => exact h a
  | 1 => exact h b
  | 2 => exact h c

section
variable (V : (c : Dev nD) → (b : Ref sig .tc) → Buf (Elt Ideal) ((c : Thread nD τ).loc b)) (c : Dev nD)

/-- The first kernel's windows are at block 0. -/
theorem index0 (t : Fin grid0.N) : ((win0_0.index t = fun _ => 0) ∧ (win0_1.index t = fun _ => 0) ∧ (win0_2.index t = fun _ => 0))
    ∧ (win0_3.index t = fun _ => 0) ∧ (win0_4.index t = fun _ => 0) ∧ (win0_5.index t = fun _ => 0) := by
  revert t; decide +kernel

/-- The first kernel's only blocks are its whole input arrays: the first coordinates … -/
theorem iblk0_x (t : Fin cfg0.N) : iblk0 V c 0 t = V c main_v1 := by
  funext y
  blk_simp [iblk0]
  refine congrArg (V c main_v1) ?_
  blk_ext [(index0 t).1.1]

/-- … the second … -/
theorem iblk0_y (t : Fin cfg0.N) : iblk0 V c 1 t = V c main_v3 := by
  funext y
  blk_simp [iblk0]
  refine congrArg (V c main_v3) ?_
  blk_ext [(index0 t).1.2.1]

/-- … and the third. -/
theorem iblk0_z (t : Fin cfg0.N) : iblk0 V c 2 t = V c main_v5 := by
  funext y
  blk_simp [iblk0]
  refine congrArg (V c main_v5) ?_
  blk_ext [(index0 t).1.2.2]

/-- The first kernel leaves in its first output the chosen points' first coordinates … -/
theorem sampled_x : (dat0 V c).arrAt 3 cfg0.N = picked (V c main_v1) (V c main_v1) (V c main_v3) (V c main_v5) := by
  refine (dat0 V c).arrAt_eq_of_covers 3 _ (by decide +kernel) fun t hf y => ?_
  blk_simp
  rw [after0_3]
  unfold outsAt0
  dsimp only
  rw [out_x, iblk0_x, iblk0_y, iblk0_z]
  refine congrArg (picked (V c main_v1) (V c main_v1) (V c main_v3) (V c main_v5)) ?_
  blk_ext [(index0 t).2.1]

/-- … in its second their second … -/
theorem sampled_y : (dat0 V c).arrAt 4 cfg0.N = picked (V c main_v3) (V c main_v1) (V c main_v3) (V c main_v5) := by
  refine (dat0 V c).arrAt_eq_of_covers 4 _ (by decide +kernel) fun t hf y => ?_
  blk_simp
  rw [after0_4]
  unfold outsAt0
  dsimp only
  rw [out_y, iblk0_x, iblk0_y, iblk0_z]
  refine congrArg (picked (V c main_v3) (V c main_v1) (V c main_v3) (V c main_v5)) ?_
  blk_ext [(index0 t).2.2.1]

/-- … in its third their third. -/
theorem sampled_z : (dat0 V c).arrAt 5 cfg0.N = picked (V c main_v5) (V c main_v1) (V c main_v3) (V c main_v5) := by
  refine (dat0 V c).arrAt_eq_of_covers 5 _ (by decide +kernel) fun t hf y => ?_
  blk_simp
  rw [after0_5]
  unfold outsAt0
  dsimp only
  rw [out_z, iblk0_x, iblk0_y, iblk0_z]
  refine congrArg (picked (V c main_v5) (V c main_v1) (V c main_v3) (V c main_v5)) ?_
  blk_ext [(index0 t).2.2.2]

/-- The second kernel's windows are at the grid's batch and chunk. -/
theorem index1 (t : Fin grid1.N) : ((win1_0.index t = ![(grid1.coords t 0).val, (grid1.coords t 1).val, 0]) ∧ (win1_1.index t = ![(grid1.coords t 0).val, (grid1.coords t 1).val, 0])
    ∧ (win1_2.index t = ![(grid1.coords t 0).val, 0, 0])) ∧ (win1_3.index t = ![(grid1.coords t 0).val, (grid1.coords t 1).val, 0]) ∧ (win1_4.index t = ![(grid1.coords t 0).val, (grid1.coords t 1).val, 0]) := by
  revert t; decide +kernel

/-- The batch of a grid point. -/
def rowAt (t : Fin grid1.N) : Fin 16 := ⟨(grid1.coords t 0).val, (grid1.coords t 0).isLt⟩

/-- The point under row `n` of a grid point's chunk. -/
def pointAt (t : Fin grid1.N) (n : Fin 2048) : Fin 8192 :=
  ⟨(grid1.coords t 1).val * 2048 + n.val, by have := (grid1.coords t 1).isLt; have h : (grid1.coords t 1).val < 4 := this; have := n.isLt; omega⟩

/-- A grid point's block of points … -/
theorem iblk1_points (t : Fin cfg1.N) (n : Fin 2048) (k : Fin 3) :
    (iblk1 V c 0 t : Vec Ideal S1x2048x3 .f32) (ix3 0 n k) = (V c main_arg0 : FVec Ideal S16x8192x3 .f32) (ix3 (rowAt t) (pointAt t n) k) := by
  blk_simp [iblk1]
  refine congrArg (V c main_arg0) ?_
  blk_ext [(index1 t).1.1]
  · rfl
  · rfl

/-- … of features … -/
theorem iblk1_features (t : Fin cfg1.N) (n : Fin 2048) (k : Fin 64) :
    (iblk1 V c 1 t : Vec Ideal S1x2048x64 .f32) (ix3 0 n k) = (V c main_arg1 : FVec Ideal S16x8192x64 .f32) (ix3 (rowAt t) (pointAt t n) k) := by
  blk_simp [iblk1]
  refine congrArg (V c main_arg1) ?_
  blk_ext [(index1 t).1.2.1]
  · rfl
  · rfl

/-- … and of centres. -/
theorem iblk1_centres (t : Fin cfg1.N) (k : Fin 3) (g : Fin 512) :
    (iblk1 V c 2 t : Vec Ideal S1x3x512 .f32) (ix3 0 k g) = (V c main_v14 : FVec Ideal S16x3x512 .f32) (ix3 (rowAt t) k g) := by
  blk_simp [iblk1]
  refine congrArg (V c main_v14) ?_
  blk_ext [(index1 t).1.2.2]
  rfl

/-- The points of batch `r`. -/
abbrev batch (x : FVec Ideal S16x8192x3 .f32) (r : Fin 16) : Fin 8192 → Fin 3 → EReal := fun n k => x (ix3 r n k)

variable (x : FVec Ideal S16x8192x3 .f32) (f : FVec Ideal S16x8192x64 .f32) (hx : V c main_arg0 = x) (hf : V c main_arg1 = f)
  (hc : ∀ r k g, (V c main_v14 : FVec Ideal S16x3x512 .f32) (ix3 r k g) = centre (batch x r) g k)
  (hs : ∀ r n g, GroupBody.spread (batch x r n) (centre (batch x r) g) = expand (batch x r n) (centre (batch x r) g))

include hx hf hc hs in
/-- The second kernel leaves in its first output what describes the points. -/
theorem grouped_array : (dat1 V c).arrAt 3 cfg1.N
    = (fun i => grouped (batch x (i 0)) (fun k => f (ix3 (i 0) (i 1) k)) (i 1) (i 2) : FVec Ideal S16x8192x68 .f32) := by
  refine (dat1 V c).arrAt_eq_of_covers 3 _ (by decide +kernel) fun t hf' y => ?_
  obtain ⟨n, j, rfl⟩ : ∃ (n : Fin 2048) (j : Fin 68), y = (ix3 0 n j : S1x2048x68.Idx) := ⟨y 1, y 2, by
    refine (ValueIdx.eq_ix3 (y : S1x2048x68.Idx)).trans ?_
    exact congrArg (fun z : Fin 1 => (ix3 z (y 1) (y 2) : S1x2048x68.Idx)) (Subsingleton.elim _ _)⟩
  have he : ((cfg1.win 3).blk t).view.emb (ix3 0 n j : S1x2048x68.Idx) = (ix3 (rowAt t) (pointAt t n) j : S16x8192x68.Idx) := by
    blk_ext [(index1 t).2.1]
    · rfl
    · rfl
  rw [he]
  blk_simp
  rw [after1_3]
  unfold outsAt1
  dsimp only
  refine (GroupBody.out_groups _ _ _ _ _ _ _ _ _ _ _ _ _ _ _ (batch x (rowAt t)) (pointAt t n) n (fun k => ?_) (fun k g => ?_) (fun g => hs _ _ g)
    (fun k => f (ix3 (rowAt t) (pointAt t n) k)) (fun k => ?_) j).trans rfl
  · rw [iblk1_points, hx]
  · rw [iblk1_centres, hc]
  · rw [iblk1_features, hf]

include hx hc hs in
/-- … and in its second the numbers of their centres. -/
theorem numbers_array : (dat1 V c).arrAt 4 cfg1.N
    = (fun i => BitVec.ofNat 32 (nearest (batch x (i 0)) (i 1)).val : IVec S16x8192x1 32) := by
  refine (dat1 V c).arrAt_eq_of_covers 4 _ (by decide +kernel) fun t hf' y => ?_
  obtain ⟨n, rfl⟩ : ∃ n : Fin 2048, y = (ix3 0 n 0 : S1x2048x1.Idx) := ⟨y 1, by
    refine (ValueIdx.eq_ix3 (y : S1x2048x1.Idx)).trans ?_
    exact congrArg₂ (fun z w : Fin 1 => (ix3 z (y 1) w : S1x2048x1.Idx)) (Subsingleton.elim _ _) (Subsingleton.elim _ _)⟩
  have he : ((cfg1.win 4).blk t).view.emb (ix3 0 n 0 : S1x2048x1.Idx) = (ix3 (rowAt t) (pointAt t n) 0 : S16x8192x1.Idx) := by
    blk_ext [(index1 t).2.2]
    · rfl
    · rfl
  rw [he]
  blk_simp
  rw [after1_4]
  unfold outsAt1
  dsimp only
  refine (GroupBody.out_numbers _ _ _ _ _ _ _ _ _ _ _ _ _ _ _ (batch x (rowAt t)) (pointAt t n) n (fun k => ?_) (fun k g => ?_) (fun g => hs _ _ g)).trans rfl
  · rw [iblk1_points, hx]
  · rw [iblk1_centres, hc]

end

/-- The chosen points' coordinates are the centres'. -/
theorem picked_centre (x : FVec Ideal S16x8192x3 .f32) (i : ℕ) (hi : i < 3) (h : S16x8192x3.Slices ![0, 0, i] S16x8192x1) (r : Fin 16) (g : Fin 512) :
    picked (coord i h x) (coord 0 slices_S16x8192x3_S16x8192x1_0_0_0 x) (coord 1 slices_S16x8192x3_S16x8192x1_0_0_1 x) (coord 2 slices_S16x8192x3_S16x8192x1_0_0_2 x) (ix2 r g)
      = centre (batch x r) g ⟨i, hi⟩ := by
  have e0 : (fun n => coord 0 slices_S16x8192x3_S16x8192x1_0_0_0 x (ix2 r n)) = fun n => x (ix3 r n 0) := funext fun n => coord_apply 0 (by decide) _ x r n
  have e1 : (fun n => coord 1 slices_S16x8192x3_S16x8192x1_0_0_1 x (ix2 r n)) = fun n => x (ix3 r n 1) := funext fun n => coord_apply 1 (by decide) _ x r n
  have e2 : (fun n => coord 2 slices_S16x8192x3_S16x8192x1_0_0_2 x (ix2 r n)) = fun n => x (ix3 r n 2) := funext fun n => coord_apply 2 (by decide) _ x r n
  show coord i h x (ix2 r (run (fun n => coord 0 slices_S16x8192x3_S16x8192x1_0_0_0 x (ix2 r n)) (fun n => coord 1 slices_S16x8192x3_S16x8192x1_0_0_1 x (ix2 r n))
    (fun n => coord 2 slices_S16x8192x3_S16x8192x1_0_0_2 x (ix2 r n)) g.val).2) = _
  rw [e0, e1, e2, coord_apply i hi]
  rfl

section
variable (m : (ℓ : Loc nD τ sig) → Buf (Elt Ideal) ℓ) (ρ : Dev nD → PrngReg) (c : Dev nD)
  (x : FVec Ideal S16x8192x3 .f32) (f : FVec Ideal S16x8192x64 .f32)
  (hx : m ((c : Thread nD τ).loc main_arg0) = x) (hf : m ((c : Thread nD τ).loc main_arg1) = f)

include hx in
/-- The first kernel's outputs hold the centres' coordinates. -/
theorem sampled : (W2 m ρ c (Proc.devRef .tc main_v6_0) = (fun i => centre (batch x (i 0)) (i 1) 0 : FVec Ideal S16x512 .f32))
    ∧ (W2 m ρ c (Proc.devRef .tc main_v6_1) = (fun i => centre (batch x (i 0)) (i 1) 1 : FVec Ideal S16x512 .f32))
    ∧ (W2 m ρ c (Proc.devRef .tc main_v6_2) = (fun i => centre (batch x (i 0)) (i 1) 2 : FVec Ideal S16x512 .f32)) := by
  have hx0 : W0 m ρ c (Proc.devRef .tc main_arg0) = x := hx
  have h1 : V1 m ρ c main_v1 = coord 0 slices_S16x8192x3_S16x8192x1_0_0_0 x := (host0_x (W0 m ρ c)).trans (by rw [hx0])
  have h3 : V1 m ρ c main_v3 = coord 1 slices_S16x8192x3_S16x8192x1_0_0_1 x := (host0_y (W0 m ρ c)).trans (by rw [hx0])
  have h5 : V1 m ρ c main_v5 = coord 2 slices_S16x8192x3_S16x8192x1_0_0_2 x := (host0_z (W0 m ρ c)).trans (by rw [hx0])
  refine ⟨(W2_arr m ρ c 3).trans ((sampled_x _ c).trans ?_), (W2_arr m ρ c 4).trans ((sampled_y _ c).trans ?_), (W2_arr m ρ c 5).trans ((sampled_z _ c).trans ?_)⟩
  all_goals
    rw [h1, h3, h5]
    funext i
    obtain ⟨r, g, rfl⟩ : ∃ (r : Fin 16) (g : Fin 512), i = ix2 r g := ⟨i 0, i 1, ValueIdx.eq_ix2 i⟩
    exact picked_centre x _ (by decide) _ r g

include hx in
/-- The program's second result is the centres. -/
theorem centres_result : W5 m ρ c (Proc.devRef .tc main_v10) = (fun i => centre (batch x (i 0)) (i 1) (i 2) : FVec Ideal S16x512x3 .f32) := by
  obtain ⟨h0, h1, h2⟩ := sampled m ρ c x hx
  refine (W5_of m ρ c main_v10 (by decide)).trans ((W4_of m ρ c main_v10 (by decide)).trans ((host1_centres (W2 m ρ c)).trans ?_))
  rw [h0, h1, h2]
  funext i
  obtain ⟨r, g, k, rfl⟩ : ∃ (r : Fin 16) (g : Fin 512) (k : Fin 3), i = ix3 r g k := ⟨i 0, i 1, i 2, ValueIdx.eq_ix3 i⟩
  refine (lastAxis_apply _ _ _ r g k).trans ?_
  match k with
  | 0 => rfl
  | 1 => rfl
  | 2 => rfl

include hx in
/-- The second kernel's centres. -/
theorem centres_across (r : Fin 16) (k : Fin 3) (g : Fin 512) : (V3 m ρ c main_v14 : FVec Ideal S16x3x512 .f32) (ix3 r k g) = centre (batch x r) g k := by
  obtain ⟨h0, h1, h2⟩ := sampled m ρ c x hx
  have h := host1_across (W2 m ρ c)
  rw [h0, h1, h2] at h
  refine (congrFun h (ix3 r k g)).trans ((middleAxis_apply _ _ _ r k g).trans ?_)
  match k with
  | 0 => rfl
  | 1 => rfl
  | 2 => rfl

variable (hs : ∀ r n g, GroupBody.spread (batch x r n) (centre (batch x r) g) = expand (batch x r n) (centre (batch x r) g))

include hx hf hs in
/-- The program's first result describes the points. -/
theorem groups_result : W5 m ρ c (Proc.devRef .tc main_v15_0)
    = (fun i => grouped (batch x (i 0)) (fun k => f (ix3 (i 0) (i 1) k)) (i 1) (i 2) : FVec Ideal S16x8192x68 .f32) :=
  (W5_of m ρ c main_v15_0 (by decide)).trans ((W4_arr m ρ c 3).trans (grouped_array (V3 m ρ) c x f
    ((W3_args m ρ c main_arg0 (by decide)).trans hx) ((W3_args m ρ c main_arg1 (by decide)).trans hf) (centres_across m ρ c x hx) hs))

include hx hs in
/-- Its third numbers their centres. -/
theorem numbers_result : W5 m ρ c (Proc.devRef .tc main_v16) = (fun i => BitVec.ofNat 32 (nearest (batch x (i 0)) (i 1)).val : IVec S16x8192 32) := by
  have h : W4 m ρ c (Proc.devRef .tc main_v15_1) = _ := (W4_arr m ρ c 4).trans (numbers_array (V3 m ρ) c x
    ((W3_args m ρ c main_arg0 (by decide)).trans hx) (centres_across m ρ c x hx) hs)
  refine (host2_numbers (W4 m ρ c)).trans ?_
  rw [h]
  funext i
  obtain ⟨r, n, rfl⟩ : ∃ (r : Fin 16) (n : Fin 8192), i = ix2 r n := ⟨i 0, i 1, ValueIdx.eq_ix2 i⟩
  exact fromColumn_apply _ r n

end

end Cert.KernelIdeal.Arrays
-- ==== Proof.RefRead.lean ====
/- What each stretch of the reference's operations leaves in the buffers that later stretches read, as one term of the
   buffers that it reads. -/
module

public import proofs.«01_k».proof.Proof.RefFrame

@[expose] public section

set_option maxRecDepth 100000

noncomputable section

namespace Cert.ReferenceIdeal.Hand

open Cert.ReferenceIdeal Cert.ReferenceIdeal.Gen
open Idealize.ShloMosaic Idealize.ShloMosaic.TcCoe Idealize.SL.Sem
open Idealize.ShloMosaic.StableHlo

variable {F : FTy → Type} [FloatOps F]

/-- A position counted from the end when it is negative: `n` is added to it. -/
def wrap {s : Shape} (h : S_.BroadcastsInDim s (![] : Fin 0 → Fin s.rank)) (n : BitVec 32) (x : IVec s 32) : IVec s 32 :=
  select (cmpi .slt x (broadcastInDim s ![] h (constantI S_ 32 0#32))) (addi x (broadcastInDim s ![] h (constantI S_ 32 n))) x

/-- The two starts of the slice at column `i`, a negative column counted from the end. -/
def starts (i : IVec S_ 32) : Fin 2 → Int := fun k =>
  ((![constantI S_ 32 0#32, select (cmpi .slt i (constantI S_ 32 0#32)) (addi (id i) (constantI S_ 32 512#32)) i] : Fin 2 → IVec S_ 32) k (Shape.Idx.first h_S_)).toInt

variable (V : Valuation τ sig (Elt F))

/-- The loop's starting table of chosen points: all zero. -/
theorem pre0_idx : after pre0 V (Proc.devRef .tc main_v2_4) = (broadcastInDim S16x512 ![] bcast_S_S16x512 (constantI S_ 32 0#32) : IVec S16x512 32) := by
  after_results <;> rfl

/-- The loop's starting distances: one large number everywhere. -/
theorem pre0_dist : after pre0 V (Proc.devRef .tc main_v2_3) = (broadcastInDim S16x8192 ![] bcast_S_S16x8192 (constant S_ .f32 0x501502F9#32) : FVec F S16x8192 .f32) := by
  after_results <;> rfl

/-- The first number of a point to choose is 1. -/
theorem pre0_i : after pre0 V (Proc.devRef .tc main_v2_2) = (constantI S_ 32 1#32 : IVec S_ 32) := by
  after_results <;> rfl

/-- The loop's points are the first argument. -/
theorem pre0_xyz : after pre0 V (Proc.devRef .tc main_v2_0) = V (Proc.devRef .tc main_arg0) := by
  after_results <;> rfl

/-- The next number of a point to choose. -/
theorem body0_i : after body0 V (Proc.devRef .tc main_while0b_v30) = addi (V (Proc.devRef .tc main_v2_2)) (constantI S_ 32 1#32) := by
  after_results <;> rfl

/-- Two index operands, read one at a time. -/
theorem two_read (a b : Ref sig .tc) (T : BufTy) (ha : a.ty = T) (hb : b.ty = T) (hT : ∀ k : Fin 2, ((![a, b] : Fin 2 → Ref sig .tc) k).ty = T) :
    (fun k : Fin 2 => cast (congrArg (fun U : BufTy => U.Contents (Elt F)) (hT k)) (V (Proc.devRef .tc ((![a, b] : Fin 2 → Ref sig .tc) k)))) =
      ![cast (congrArg (fun U : BufTy => U.Contents (Elt F)) ha) (V (Proc.devRef .tc a)), cast (congrArg (fun U : BufTy => U.Contents (Elt F)) hb) (V (Proc.devRef .tc b))] :=
  funext fun k => match k with
    | 0 => rfl
    | 1 => rfl

/-- The position of the last chosen point, for each coordinate. -/
theorem body0_at : after body0 V (Proc.devRef .tc main_while0b_v38) =
    (broadcastInDim S16x1x3 ![0, 1, 2] bcast_S16x1x1_S16x1x3_0_1_2 (broadcastInDim S16x1x1 ![0, 1] bcast_S16x1_S16x1x1_0_1
      (Host.dynamicSlice S16x1 (V (Proc.devRef .tc main_v2_4) : IVec S16x512 32) (starts (subi (V (Proc.devRef .tc main_v2_2)) (constantI S_ 32 1#32))) sliceFits_S16x512_S16x1)) : IVec S16x1x3 32) := by
  after_results
  rw [two_read _ main_while0b_c_14 main_while0b_v35 ⟨S_, .i32⟩ rfl rfl (by decide)]
  after_results_simp
  rfl

/-- The last chosen point's coordinates. -/
theorem body1_pt : after body1 V (Proc.devRef .tc main_while0b_v39) =
    (Host.gather gather_S16x8192x3_S16x1x3x1_S16x1x3_n_1_02_02_1_3_111 (V (Proc.devRef .tc main_v2_0) : FVec F S16x8192x3 .f32)
      (shapeCast S16x1x3x1 (wrap bcast_S_S16x1x3 8192#32 (V (Proc.devRef .tc main_while0b_v38))) shapeCasts_S16x1x3_S16x1x3x1) : FVec F S16x1x3 .f32) := by
  after_results <;> rfl

/-- The differences of the points from one point for each batch. -/
def away (x : FVec F S16x8192x3 .f32) (p : FVec F S16x1x3 .f32) : FVec F S16x8192x3 .f32 :=
  subf x (broadcastInDim S16x8192x3 ![0, 1, 2] bcast_S16x1x3_S16x8192x3_0_1_2 p)

/-- The lowered distances. -/
theorem body2_dist : after body2 V (Proc.devRef .tc main_while0b_v44) =
    (minimumf (V (Proc.devRef .tc main_v2_3)) (Host.reduceAdd (mulf (away (V (Proc.devRef .tc main_v2_0)) (V (Proc.devRef .tc main_while0b_v39)))
      (away (V (Proc.devRef .tc main_v2_0)) (V (Proc.devRef .tc main_while0b_v39)))) (constant S_ .f32 0x00000000#32) reducesTo_S16x8192x3_S16x8192_d2 h_S_) : FVec F S16x8192 .f32) := by
  after_results <;> rfl

/-- The position of a largest distance. -/
theorem body3_next : after body3 V (Proc.devRef .tc main_while0b_v45) =
    ((fun j => (Host.argReduce reducer_argmax_f32_i32 (V (Proc.devRef .tc main_while0b_v44) : FVec F S16x8192 .f32) (iotaInDim S16x8192 32 1) (constant S_ .f32 0xFF800000#32)
      (constantI S_ 32 0#32) reducesTo_S16x8192_S16_d1 h_S_ j).2) : IVec S16 32) := by
  after_results <;> rfl

/-- The table with that position written into its column. -/
theorem body4_idx : after body4 V (Proc.devRef .tc main_v2_4) =
    (Host.dynamicUpdateSlice (V (Proc.devRef .tc main_v2_4) : IVec S16x512 32) (broadcastInDim S16x1 ![0] bcast_S16_S16x1_0 (V (Proc.devRef .tc main_while0b_v45)) : IVec S16x1 32)
      (starts (V (Proc.devRef .tc main_v2_2))) updateFits_S16x512_S16x1 : IVec S16x512 32) := by
  after_results
  rw [two_read _ main_while0b_c_18 main_while0b_v50 ⟨S_, .i32⟩ rfl rfl (by decide)]
  after_results_simp
  rfl

/-- The loop's number, and its distances, for the next trip. -/
theorem body4_i : after body4 V (Proc.devRef .tc main_v2_2) = V (Proc.devRef .tc main_while0b_v30) := by
  after_results <;> rfl
theorem body4_dist : after body4 V (Proc.devRef .tc main_v2_3) = V (Proc.devRef .tc main_while0b_v44) := by
  after_results <;> rfl

/-- The chosen positions, for each coordinate. -/
theorem post0_at : after post0 V (Proc.devRef .tc main_v4) =
    (broadcastInDim S16x512x3 ![0, 1, 2] bcast_S16x512x1_S16x512x3_0_1_2 (broadcastInDim S16x512x1 ![0, 1] bcast_S16x512_S16x512x1_0_1 (V (Proc.devRef .tc main_v2_4))) : IVec S16x512x3 32) := by
  after_results <;> rfl

/-- The chosen points: the centres. -/
theorem post1_pts : after post1 V (Proc.devRef .tc main_v5) =
    (Host.gather gather_S16x8192x3_S16x512x3x1_S16x512x3_n_1_02_02_1_3_111 (V (Proc.devRef .tc main_arg0) : FVec F S16x8192x3 .f32)
      (shapeCast S16x512x3x1 (wrap bcast_S_S16x512x3 8192#32 (V (Proc.devRef .tc main_v4))) shapeCasts_S16x512x3_S16x512x3x1) : FVec F S16x512x3 .f32) := by
  after_results <;> rfl

/-- The expanded squared distances of the points from the centres. -/
def expanded (x : FVec F S16x8192x3 .f32) (y : FVec F S16x512x3 .f32) : FVec F S16x8192x512 .f32 :=
  subf (addf (broadcastInDim S16x8192x512 ![0, 1, 2] bcast_S16x8192x1_S16x8192x512_0_1_2 (broadcastInDim S16x8192x1 ![0, 1] bcast_S16x8192_S16x8192x1_0_1
        (Host.reduceAdd (mulf x x) (constant S_ .f32 0x00000000#32) reducesTo_S16x8192x3_S16x8192_d2 h_S_)))
      (broadcastInDim S16x8192x512 ![0, 1, 2] bcast_S16x1x512_S16x8192x512_0_1_2 (broadcastInDim S16x1x512 ![0, 2] bcast_S16x512_S16x1x512_0_2
        (Host.reduceAdd (mulf y y) (constant S_ .f32 0x00000000#32) reducesTo_S16x512x3_S16x512_d2 h_S_))))
    (mulf (broadcastInDim S16x8192x512 ![] bcast_S_S16x8192x512 (constant S_ .f32 0x40000000#32))
      (Host.dotGeneral dot_S16x8192x3_S16x512x3_S16x8192x512_2_2_1_1_0_0 none x y))

/-- The distances whose least one is taken. -/
theorem post2_dist : after post2 V (Proc.devRef .tc main_v18) = expanded (V (Proc.devRef .tc main_arg0)) (V (Proc.devRef .tc main_v5)) := by
  after_results <;> rfl

/-- The position of a least distance. -/
theorem post3_near : after post3 V (Proc.devRef .tc main_v19) =
    ((fun j => (Host.argReduce reducer_argmin_f32_i32 (V (Proc.devRef .tc main_v18) : FVec F S16x8192x512 .f32) (iotaInDim S16x8192x512 32 2) (constant S_ .f32 0x7F800000#32)
      (constantI S_ 32 0#32) reducesTo_S16x8192x512_S16x8192_d2 h_S_ j).2) : IVec S16x8192 32) := by
  after_results <;> rfl

/-- That position, for each coordinate. -/
theorem post4_at : after post4 V (Proc.devRef .tc main_v21) =
    (broadcastInDim S16x8192x3 ![0, 1, 2] bcast_S16x8192x1_S16x8192x3_0_1_2 (broadcastInDim S16x8192x1 ![0, 1] bcast_S16x8192_S16x8192x1_0_1 (V (Proc.devRef .tc main_v19))) : IVec S16x8192x3 32) := by
  after_results <;> rfl

/-- The nearest centres. -/
theorem post5_sel : after post5 V (Proc.devRef .tc main_v22) =
    (Host.gather gather_S16x512x3_S16x8192x3x1_S16x8192x3_n_1_02_02_1_3_111 (V (Proc.devRef .tc main_v5) : FVec F S16x512x3 .f32)
      (shapeCast S16x8192x3x1 (wrap bcast_S_S16x8192x3 512#32 (V (Proc.devRef .tc main_v21))) shapeCasts_S16x8192x3_S16x8192x3x1) : FVec F S16x8192x3 .f32) := by
  after_results <;> rfl

/-- The points less their nearest centres. -/
theorem post6_nbr : after post6 V (Proc.devRef .tc main_v23) = subf (V (Proc.devRef .tc main_arg0) : FVec F S16x8192x3 .f32) (V (Proc.devRef .tc main_v22)) := by
  after_results <;> rfl

/-- Their lengths. -/
theorem post7_norm : after post7 V (Proc.devRef .tc main_v24) =
    (Host.sqrt (broadcastInDim S16x8192x1 ![0, 1] bcast_S16x8192_S16x8192x1_0_1 (Host.reduceAdd (mulf (V (Proc.devRef .tc main_v23) : FVec F S16x8192x3 .f32) (V (Proc.devRef .tc main_v23)))
      (constant S_ .f32 0x00000000#32) reducesTo_S16x8192x3_S16x8192_d2 h_S_)) : FVec F S16x8192x1 .f32) := by
  after_results <;> rfl

/-- The grouped features: the scaled differences, their lengths, the given features. -/
theorem post8_out : after post8 V (Proc.devRef .tc main_v29) =
    (concatenate S16x8192x68 2 [⟨S16x8192x3, (Host.divf (V (Proc.devRef .tc main_v23) : FVec F S16x8192x3 .f32)
        (broadcastInDim S16x8192x3 ![0, 1, 2] bcast_S16x8192x1_S16x8192x3_0_1_2 (maximumf (V (Proc.devRef .tc main_v24) : FVec F S16x8192x1 .f32)
          (broadcastInDim S16x8192x1 ![] bcast_S_S16x8192x1 (constant S_ .f32 0x322BCC77#32)))))⟩, ⟨S16x8192x1, (V (Proc.devRef .tc main_v24) : FVec F S16x8192x1 .f32)⟩,
        ⟨S16x8192x64, (V (Proc.devRef .tc main_arg1) : FVec F S16x8192x64 .f32)⟩]
      concatenates_S16x8192x3_S16x8192x1_S16x8192x64_S16x8192x68_d2 : FVec F S16x8192x68 .f32) := by
  after_results <;> rfl

end Cert.ReferenceIdeal.Hand
-- ==== Proof.RefOps.lean ====
/-
  The reference's operations read at their elements, over the extended reals: the gather of points, the first position of
  a greatest or least value, the slices of one column, and positions counted from the end.
-/
module

public import proofs.«01_k».proof.Proof.RefRead
public import proofs.«01_k».proof.Proof.Farthest
public import proofs.«01_k».proof.Proof.Tracks
public import Idealize.ShloMosaic.Lib.WordCmp
public import Idealize.ShloMosaic.PureOps.Ideal.Laws

@[expose] public section

noncomputable section

namespace Cert.ReferenceIdeal.Hand

open Cert.ReferenceIdeal Cert.ReferenceIdeal.Gen Cert.Farthest
open Idealize.ShloMosaic.TcCoe Idealize.ShloMosaic.ValueIdx
open Idealize.ShloMosaic hiding ix1 ix2 ix3 ix4

/-! ## The first best value -/

/-- A fold that keeps the better of two ends on a best member. -/
theorem foldl_best {α : Type} (f : α → α → α) (R : α → α → Prop) (hr : ∀ a, R a a) (ht : ∀ a b c, R a b → R b c → R a c)
    (hf : ∀ a b, (f a b = a ∨ f a b = b) ∧ R (f a b) a ∧ R (f a b) b) :
    ∀ (L : List α) (e : α), L.foldl f e ∈ e :: L ∧ ∀ p ∈ e :: L, R (L.foldl f e) p
  | [], e => ⟨List.mem_singleton.mpr rfl, fun p hp => by rw [List.mem_singleton.mp hp]; exact hr e⟩
  | b :: L, e => by
    obtain ⟨hm, hR⟩ := foldl_best f R hr ht hf L (f e b)
    obtain ⟨hc, h1, h2⟩ := hf e b
    rw [List.foldl_cons]
    refine ⟨?_, fun p hp => ?_⟩
    · rcases List.mem_cons.mp hm with h | h
      · rw [h]
        rcases hc with hc | hc <;> rw [hc] <;> simp
      · exact List.mem_cons_of_mem _ (List.mem_cons_of_mem _ h)
    · have hb := hR (f e b) List.mem_cons_self
      rcases List.mem_cons.mp hp with rfl | hp
      · exact ht _ _ _ hb h1
      · rcases List.mem_cons.mp hp with rfl | hp
        · exact ht _ _ _ hb h2
        · exact hR p (List.mem_cons_of_mem _ hp)

/-- A pair is better by its value, and among equal values by the lesser number. -/
def Better (G : EReal → EReal → Prop) (a b : EReal × BitVec 32) : Prop := G a.1 b.1 ∨ (a.1 = b.1 ∧ a.2.toInt ≤ b.2.toInt)

/-- A number below 8192 as a word reads back as itself. -/
theorem toInt_small {n : ℕ} (hn : n < 8192) : (BitVec.ofNat 32 n).toInt = n := by
  rw [BitVec.toInt_eq_toNat_of_lt (by rw [BitVec.toNat_ofNat]; omega), BitVec.toNat_ofNat]; omega

/-- The position that a fold keeping the better of two pairs ends on is the first one whose value none is better than. -/
theorem argReduce_first (G : EReal → EReal → Prop) (hGi : ∀ a, ¬ G a a) (hGt : ∀ a b c, G a b → G b c → G a c)
    (f : EReal × BitVec 32 → EReal × BitVec 32 → EReal × BitVec 32)
    (hf : ∀ a b, (f a b = a ∨ f a b = b) ∧ Better G (f a b) a ∧ Better G (f a b) b)
    {s t : Shape} {a : Fin s.rank} (h' : s.ReducesTo [a] t) (h : s.Reduces [a] t) (x : FVec Ideal s .f32)
    (e : S_.Idx → EReal) (he : ∀ v, ¬ G (e (Shape.Idx.first h_S_)) v) (j : t.Idx) (h0 : 0 < s.size a) (hN : s.size a ≤ 8192) :
    ∃ n : Fin (s.size a), (Host.argReduce (F := Ideal) (φ := .f32) f x (iotaInDim s 32 a) e (constantI S_ 32 0#32) h' h_S_ j).2 = BitVec.ofNat 32 n.val ∧
      IsFirst (fun n => ∀ m, ¬ G (x (h.lift j m)) (x (h.lift j n))) n := by
  rw [Ideal.argReduce_eq_reduce2, Host.reduce2_eq_foldl_fiber]
  obtain ⟨hm, hR⟩ := foldl_best f (Better G) (fun a => Or.inr ⟨rfl, le_refl _⟩) (by
    rintro a b c (h | ⟨h, h'⟩) (k | ⟨k, k'⟩)
    · exact Or.inl (hGt _ _ _ h k)
    · exact Or.inl (k ▸ h)
    · exact Or.inl (h ▸ k)
    · exact Or.inr ⟨h.trans k, h'.trans k'⟩) hf (Host.argReduceFiber x (iotaInDim s 32 a) h' j)
      (e (Shape.Idx.first h_S_), constantI S_ 32 0#32 (Shape.Idx.first h_S_))
  have hmem : ∀ m : Fin (s.size a), (x (h.lift j m), BitVec.ofNat 32 m.val) ∈ Host.argReduceFiber x (iotaInDim s 32 a) h' j := fun m => by
    refine List.mem_map.mpr ⟨s.rowMajor (h.lift j m), List.mem_filter.mpr ⟨List.mem_finRange _, ?_⟩, ?_⟩
    · rw [decide_eq_true_eq, Equiv.symm_apply_apply, Shape.ReducesTo.drop_eq_drop h' h]
      exact h.drop_lift j m
    · rw [Equiv.symm_apply_apply]
      refine Prod.ext rfl ?_
      show BitVec.ofNat 32 (h.lift j m a).val = _
      congr 1
      rw [h.lift_val, Shape.Reduces.liftVal]
      simp
  generalize hr : (Host.argReduceFiber x (iotaInDim s 32 a) h' j).foldl f (e (Shape.Idx.first h_S_), constantI S_ 32 0#32 (Shape.Idx.first h_S_)) = r at hm hR ⊢
  have hpos : ∃ n : Fin (s.size a), r = (x (h.lift j n), BitVec.ofNat 32 n.val) := by
    rcases List.mem_cons.mp hm with hm | hm
    · refine ⟨⟨0, h0⟩, ?_⟩
      have := hR _ (List.mem_cons_of_mem _ (hmem ⟨0, h0⟩))
      rw [hm] at this ⊢
      rcases this with h | ⟨h, -⟩
      · exact absurd h (he _)
      · exact Prod.ext h rfl
    · obtain ⟨i, hi, hi'⟩ := List.mem_map.mp hm
      have hd := (List.mem_filter.mp hi).2
      rw [decide_eq_true_eq, Shape.ReducesTo.drop_eq_drop h' h] at hd
      refine ⟨s.rowMajor.symm i a, ?_⟩
      rw [← hi', ← hd, h.lift_drop]
      rfl
  obtain ⟨n, rfl⟩ := hpos
  refine ⟨n, rfl, fun m hm' => ?_, fun m hmn hall => ?_⟩
  · rcases hR _ (List.mem_cons_of_mem _ (hmem m)) with h | ⟨h, -⟩
    · exact hGi _ (hGt _ _ _ hm' h)
    · exact hGi _ ((show x _ = x _ from h) ▸ hm')
  · rcases hR _ (List.mem_cons_of_mem _ (hmem m)) with h | ⟨-, h⟩
    · exact hall n h
    · have h1 := toInt_small (lt_of_lt_of_le n.isLt hN)
      have h2 := toInt_small (lt_of_lt_of_le m.isLt hN)
      rw [h1, h2] at h
      have : m.val < n.val := hmn
      omega

/-- The reducer of the arg-max keeps the better of two pairs, greater being better. -/
theorem argmax_better (a b : EReal × BitVec 32) : (reducer_argmax_f32_i32 (F := Ideal) a b = a ∨ reducer_argmax_f32_i32 (F := Ideal) a b = b) ∧
    Better (· > ·) (reducer_argmax_f32_i32 (F := Ideal) a b) a ∧ Better (· > ·) (reducer_argmax_f32_i32 (F := Ideal) a b) b := by
  obtain ⟨v, i⟩ := a
  obtain ⟨w, k⟩ := b
  have hs : BitVec.slt i k = decide (i.toInt < k.toInt) := BitVec.slt_eq_decide
  rcases lt_trichotomy v w with h | h | h
  · have e : reducer_argmax_f32_i32 (F := Ideal) (v, i) (w, k) = (w, k) := by
      simp [reducer_argmax_f32_i32, Ideal.cmpf_def, Ideal.cmp, Scalar.select, IntOp.ori, IntOp.andi, IntOp.cmpi, h.not_gt, h.ne]
    rw [e]; exact ⟨Or.inr rfl, Or.inl h, Or.inr ⟨rfl, le_refl _⟩⟩
  · subst h
    by_cases hk : i.toInt < k.toInt
    · have e : reducer_argmax_f32_i32 (F := Ideal) (v, i) (v, k) = (v, i) := by
        simp [reducer_argmax_f32_i32, Ideal.cmpf_def, Ideal.cmp, Scalar.select, IntOp.ori, IntOp.andi, IntOp.cmpi, hs, hk]
      rw [e]; exact ⟨Or.inl rfl, Or.inr ⟨rfl, le_refl _⟩, Or.inr ⟨rfl, hk.le⟩⟩
    · have e : reducer_argmax_f32_i32 (F := Ideal) (v, i) (v, k) = (v, k) := by
        simp [reducer_argmax_f32_i32, Ideal.cmpf_def, Ideal.cmp, Scalar.select, IntOp.ori, IntOp.andi, IntOp.cmpi, hs, hk]
      rw [e]; exact ⟨Or.inr rfl, Or.inr ⟨rfl, not_lt.mp hk⟩, Or.inr ⟨rfl, le_refl _⟩⟩
  · have e : reducer_argmax_f32_i32 (F := Ideal) (v, i) (w, k) = (v, i) := by
      simp [reducer_argmax_f32_i32, Ideal.cmpf_def, Ideal.cmp, Scalar.select, IntOp.ori, IntOp.andi, IntOp.cmpi, h, h.ne']
    rw [e]; exact ⟨Or.inl rfl, Or.inr ⟨rfl, le_refl _⟩, Or.inl h⟩

/-- The reducer of the arg-min keeps the better of two pairs, lesser being better. -/
theorem argmin_better (a b : EReal × BitVec 32) : (reducer_argmin_f32_i32 (F := Ideal) a b = a ∨ reducer_argmin_f32_i32 (F := Ideal) a b = b) ∧
    Better (· < ·) (reducer_argmin_f32_i32 (F := Ideal) a b) a ∧ Better (· < ·) (reducer_argmin_f32_i32 (F := Ideal) a b) b := by
  obtain ⟨v, i⟩ := a
  obtain ⟨w, k⟩ := b
  have hs : BitVec.slt i k = decide (i.toInt < k.toInt) := BitVec.slt_eq_decide
  rcases lt_trichotomy w v with h | h | h
  · have e : reducer_argmin_f32_i32 (F := Ideal) (v, i) (w, k) = (w, k) := by
      simp [reducer_argmin_f32_i32, Ideal.cmpf_def, Ideal.cmp, Scalar.select, IntOp.ori, IntOp.andi, IntOp.cmpi, h.not_gt, h.ne']
    rw [e]; exact ⟨Or.inr rfl, Or.inl h, Or.inr ⟨rfl, le_refl _⟩⟩
  · subst h
    by_cases hk : i.toInt < k.toInt
    · have e : reducer_argmin_f32_i32 (F := Ideal) (w, i) (w, k) = (w, i) := by
        simp [reducer_argmin_f32_i32, Ideal.cmpf_def, Ideal.cmp, Scalar.select, IntOp.ori, IntOp.andi, IntOp.cmpi, hs, hk]
      rw [e]; exact ⟨Or.inl rfl, Or.inr ⟨rfl, le_refl _⟩, Or.inr ⟨rfl, hk.le⟩⟩
    · have e : reducer_argmin_f32_i32 (F := Ideal) (w, i) (w, k) = (w, k) := by
        simp [reducer_argmin_f32_i32, Ideal.cmpf_def, Ideal.cmp, Scalar.select, IntOp.ori, IntOp.andi, IntOp.cmpi, hs, hk]
      rw [e]; exact ⟨Or.inr rfl, Or.inr ⟨rfl, not_lt.mp hk⟩, Or.inr ⟨rfl, le_refl _⟩⟩
  · have e : reducer_argmin_f32_i32 (F := Ideal) (v, i) (w, k) = (v, i) := by
      simp [reducer_argmin_f32_i32, Ideal.cmpf_def, Ideal.cmp, Scalar.select, IntOp.ori, IntOp.andi, IntOp.cmpi, h, h.ne]
    rw [e]; exact ⟨Or.inl rfl, Or.inr ⟨rfl, le_refl _⟩, Or.inl h⟩

/-- The reference's arg-max along a row is the row's first greatest position. -/
theorem argmax_row (x : FVec Ideal S16x8192 .f32) (r : Fin 16) :
    (Host.argReduce (F := Ideal) reducer_argmax_f32_i32 x (iotaInDim S16x8192 32 1) (constant (F := Ideal) S_ .f32 0xFF800000#32)
      (constantI S_ 32 0#32) reducesTo_S16x8192_S16_d1 h_S_ (ix1 r)).2 = BitVec.ofNat 32 (firstMax fun n => x (ix2 r n)).val := by
  have h : S16x8192.Reduces [1] S16 := by decide
  have hl : ∀ n : Fin 8192, h.lift (ix1 r) n = ix2 r n := fun n => by
    funext a; match a with | ⟨0, _⟩ => rfl | ⟨1, _⟩ => rfl
  obtain ⟨n, hn, hf⟩ := argReduce_first (· > ·) (fun a => lt_irrefl a) (fun a b c h k => lt_trans k h) _ argmax_better
    reducesTo_S16x8192_S16_d1 h x (constant (F := Ideal) S_ .f32 0xFF800000#32) (fun v => by
      show ¬ (Ideal.ofBits .f32 0xFF800000#32 > v)
      simp [Ideal.ofBits, Ideal.ieee]) (ix1 r) (by decide) (by decide)
  refine hn.trans (congrArg (fun n : Fin 8192 => BitVec.ofNat 32 n.val) (IsFirst.unique ?_ (firstMax_spec _)))
  simp only [not_lt, gt_iff_lt] at hf
  exact (congrArg (fun d : Fin 8192 → EReal => IsFirst (fun n => ∀ m, d m ≤ d n) n) (funext fun n => congrArg x (hl n))).mp hf

/-- The reference's arg-min along the centres is the first least position. -/
theorem argmin_row (x : FVec Ideal S16x8192x512 .f32) (r : Fin 16) (q : Fin 8192) :
    (Host.argReduce (F := Ideal) reducer_argmin_f32_i32 x (iotaInDim S16x8192x512 32 2) (constant (F := Ideal) S_ .f32 0x7F800000#32)
      (constantI S_ 32 0#32) reducesTo_S16x8192x512_S16x8192_d2 h_S_ (ix2 r q)).2 = BitVec.ofNat 32 (firstMin fun n => x (ix3 r q n)).val := by
  have h : S16x8192x512.Reduces [2] S16x8192 := by decide
  have hl : ∀ n : Fin 512, h.lift (ix2 r q) n = ix3 r q n := fun n => by
    funext a; match a with | ⟨0, _⟩ => rfl | ⟨1, _⟩ => rfl | ⟨2, _⟩ => rfl
  obtain ⟨n, hn, hf⟩ := argReduce_first (· < ·) (fun a => lt_irrefl a) (fun a b c h k => lt_trans h k) _ argmin_better
    reducesTo_S16x8192x512_S16x8192_d2 h x (constant (F := Ideal) S_ .f32 0x7F800000#32) (fun v => by
      show ¬ (Ideal.ofBits .f32 0x7F800000#32 < v)
      simp [Ideal.ofBits, Ideal.ieee]) (ix2 r q) (by decide) (by decide)
  refine hn.trans (congrArg (fun n : Fin 512 => BitVec.ofNat 32 n.val) (IsFirst.unique ?_ (firstMin_spec _)))
  simp only [not_lt] at hf
  exact (congrArg (fun d : Fin 512 → EReal => IsFirst (fun n => ∀ m, d n ≤ d m) n) (funext fun n => congrArg x (hl n))).mp hf

/-! ## Positions -/

/-- A position below 8192 is not counted from the end. -/
theorem wrap_small {s : Shape} (h : S_.BroadcastsInDim s (![] : Fin 0 → Fin s.rank)) (n : BitVec 32) (x : IVec s 32) (j : s.Idx) (k : ℕ) (hk : k < 8192)
    (hx : x j = BitVec.ofNat 32 k) : wrap h n x j = BitVec.ofNat 32 k := by
  show Scalar.select (IntOp.cmpi .slt (x j) (0#32)) (IntOp.addi (x j) n) (x j) = _
  have h0 : IntOp.cmpi .slt (BitVec.ofNat 32 k) (0#32) = BitVec.ofBool (decide (k < 0)) := slt_small hk.le (Nat.zero_le _)
  rw [hx, h0, select_ofBool, if_neg (Nat.not_lt_zero _)]

/-- The starts at a column below 512. -/
theorem starts_small (i : IVec S_ 32) (k : ℕ) (hk : k < 512) (hi : i = constantI S_ 32 (BitVec.ofNat 32 k)) :
    ∀ a : Fin 2, starts i a = (((![0, k] : Fin 2 → ℕ) a : ℕ) : ℤ) := by
  subst hi
  intro a
  match a with
  | ⟨0, _⟩ => rfl
  | ⟨1, _⟩ =>
    show (Scalar.select (IntOp.cmpi .slt (BitVec.ofNat 32 k) (0#32)) (IntOp.addi (BitVec.ofNat 32 k) 512#32) (BitVec.ofNat 32 k)).toInt = (k : ℤ)
    have h0 : IntOp.cmpi .slt (BitVec.ofNat 32 k) (0#32) = BitVec.ofBool (decide (k < 0)) := slt_small (by omega) (Nat.zero_le _)
    rw [h0, select_ofBool, if_neg (Nat.not_lt_zero _), toInt_small (by omega)]

/-- The slice of one column reads the column. -/
theorem column_slice (x : IVec S16x512 32) (i : IVec S_ 32) (k : ℕ) (hk : k < 512) (hi : i = constantI S_ 32 (BitVec.ofNat 32 k)) (r : Fin 16) (z : Fin 1) :
    Host.dynamicSlice S16x1 x (starts i) sliceFits_S16x512_S16x1 (ix2 r z) = x (ix2 r ⟨k, hk⟩) := by
  have hs : S16x512.Slices ![0, k] S16x1 := ⟨rfl, fun a => match a with
    | ⟨0, _⟩ => by show 0 + 16 ≤ 16; omega
    | ⟨1, _⟩ => by show k + 1 ≤ 512; omega⟩
  refine (congrFun (WordCmp.dynamicSlice_eq_extract S16x1 x (starts i) sliceFits_S16x512_S16x1 ![0, k] hs (starts_small i k hk hi)) _).trans ?_
  show x _ = x _
  congr 1
  funext a
  match a with
  | ⟨0, _⟩ => exact Fin.ext (Nat.zero_add _)
  | ⟨1, _⟩ => apply Fin.ext; show k + z.val = k; omega

/-- The table with one column written reads the written column there and itself elsewhere. -/
theorem column_update (x : IVec S16x512 32) (u : IVec S16x1 32) (i : IVec S_ 32) (k : ℕ) (hk : k < 512) (hi : i = constantI S_ 32 (BitVec.ofNat 32 k))
    (r : Fin 16) (g : Fin 512) :
    Host.dynamicUpdateSlice x u (starts i) updateFits_S16x512_S16x1 (ix2 r g) = if g.val = k then u (ix2 r 0) else x (ix2 r g) := by
  have hs : S16x512.Slices ![0, k] S16x1 := ⟨rfl, fun a => match a with
    | ⟨0, _⟩ => by show 0 + 16 ≤ 16; omega
    | ⟨1, _⟩ => by show k + 1 ≤ 512; omega⟩
  refine (congrFun (WordCmp.dynamicUpdateSlice_eq_update x u (starts i) updateFits_S16x512_S16x1 ![0, k] hs (starts_small i k hk hi)) _).trans ?_
  unfold updateSlice
  by_cases hg : g.val = k
  · rw [dif_pos (fun a => match a with
      | ⟨0, _⟩ => ⟨Nat.zero_le _, by show r.val < 0 + 16; omega⟩
      | ⟨1, _⟩ => ⟨by show k ≤ g.val; omega, by show g.val < k + 1; omega⟩), if_pos hg]
    refine congrArg u ?_
    funext a
    match a with
    | ⟨0, _⟩ => exact Fin.ext (Nat.sub_zero _)
    | ⟨1, _⟩ => apply Fin.ext; show g.val - k = 0; omega
  · rw [dif_neg (fun h => hg ?_), if_neg hg]
    have h1 := h ⟨1, by decide⟩
    have h2 : k ≤ g.val ∧ g.val < k + 1 := h1
    omega

/-! ## The gather of points -/

/-- The dimension numbers of `jnp.take_along_axis` on the points' axis of an array [16, N, 3] at positions [16, M, 3]. -/
abbrev pointDims (N M : ℕ) (wf : GatherDims.WF ⟨3, ![16, N, 3]⟩ ⟨4, ![16, M, 3, 1]⟩ ⟨3, ![16, M, 3]⟩ [] [1] [0, 2] [1] [0, 2] 3 ![1, 1, 1]) :
    GatherDims ⟨3, ![16, N, 3]⟩ ⟨4, ![16, M, 3, 1]⟩ ⟨3, ![16, M, 3]⟩ where
  offsetDims := []
  collapsedSliceDims := [1]
  operandBatchingDims := [0, 2]
  startIndicesBatchingDims := [0, 2]
  startIndexMap := [1]
  indexVectorDim := 3
  sliceSizes := ![1, 1, 1]
  wf := wf

/-- That gather read at an element: the point at the position there, when the position is in range. -/
theorem gather_points {α : Type} (N M : ℕ) (hN : N ≤ 8192) (wf) (x : (⟨3, ![16, N, 3]⟩ : Shape).Idx → α)
    (p : IVec ⟨3, ![16, M, 3]⟩ 32) (hc : (⟨3, ![16, M, 3]⟩ : Shape).ShapeCasts ⟨4, ![16, M, 3, 1]⟩) (r : Fin 16) (m : Fin M) (c : Fin 3) (n : Fin N)
    (hp : p (ix3 r m c) = BitVec.ofNat 32 n.val) :
    Host.gather (pointDims N M wf) x (shapeCast ⟨4, ![16, M, 3, 1]⟩ p hc) (ix3 r m c) = x (ix3 r n c) := by
  have hidx : shapeCast ⟨4, ![16, M, 3, 1]⟩ p hc (ix4 r m c 0) = BitVec.ofNat 32 n.val := by
    refine (shapeCast_apply p _ _ (ix3 r m c) ?_).trans hp
    rw [Shape.rowMajor_val_three, Shape.rowMajor_val_four]
    show _ = ((r.val * M + m.val) * 3 + c.val) * 1 + 0
    rw [Nat.mul_one, Nat.add_zero]
    rfl
  generalize shapeCast ⟨4, ![16, M, 3, 1]⟩ p hc = idx at hidx ⊢
  unfold Host.gather
  refine congrArg x ?_
  funext a
  refine Fin.ext ?_
  show (pointDims N M wf).start (ix3 r m c) idx a + (pointDims N M wf).batchCoord (ix3 r m c) a + (pointDims N M wf).offCoord (ix3 r m c) a = _
  have ha : a = 1 ∨ a = 0 ∨ a = 2 := by
    match a with
    | ⟨0, _⟩ => exact Or.inr (Or.inl rfl)
    | ⟨1, _⟩ => exact Or.inl rfl
    | ⟨2, _⟩ => exact Or.inr (Or.inr rfl)
  rcases ha with rfl | rfl | rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (pointDims N M wf).startIndexMap from List.mem_singleton.mpr rfl)]
    have hsi : (pointDims N M wf).siIdx (ix3 r m c) ⟨List.idxOf (1 : Fin 3) (pointDims N M wf).startIndexMap,
        List.idxOf_lt_length_iff.2 (List.mem_singleton.mpr rfl)⟩ = ix4 r m c 0 := by
      funext b; refine Fin.ext ?_
      match b with
      | ⟨0, _⟩ => rfl
      | ⟨1, _⟩ => rfl
      | ⟨2, _⟩ => rfl
      | ⟨3, _⟩ => rfl
    rw [hsi, hidx, toInt_small (lt_of_lt_of_le n.isLt hN)]
    show min n.val (N - 1) = n.val
    have := n.isLt
    omega
  · rw [GatherDims.start_batching _ _ _ _ (by simp), GatherDims.offCoord_eq_zero _ _ _ (fun h => ((GatherDims.mem_sKept _ _).mp h).2 (by simp))]
    simp only [Nat.zero_add, Nat.add_zero]
    unfold GatherDims.batchCoord
    rw [dif_pos (by simp)]
    rfl
  · rw [GatherDims.start_batching _ _ _ _ (by simp), GatherDims.offCoord_eq_zero _ _ _ (fun h => ((GatherDims.mem_sKept _ _).mp h).2 (by simp))]
    simp only [Nat.zero_add, Nat.add_zero]
    unfold GatherDims.batchCoord
    rw [dif_pos (by simp)]
    rfl

end Cert.ReferenceIdeal.Hand
-- ==== Proof.RefTrip.lean ====
/-
  The reference's loop over the extended reals: before its `k`-th test the running distances are those of `k` steps of
  farthest point sampling, and the table's first `k + 1` columns hold the points that these steps choose.
-/
module

public import proofs.«01_k».proof.Proof.RefOps

@[expose] public section

noncomputable section

namespace Cert.ReferenceIdeal.Hand

open Cert.ReferenceIdeal Cert.ReferenceIdeal.Gen Cert.Farthest
open Idealize.ShloMosaic.TcCoe Idealize.ShloMosaic.ValueIdx Idealize.SL.Sem Idealize.ShloMosaic.StableHlo
open Idealize.ShloMosaic hiding ix1 ix2 ix3 ix4

/-- The host's sum over the three coordinates. -/
theorem sum_coords (N : ℕ) (x : FVec Ideal ⟨3, ![16, N, 3]⟩ .f32) (h' : (⟨3, ![16, N, 3]⟩ : Shape).ReducesTo [2] ⟨2, ![16, N]⟩)
    (r : Fin 16) (n : Fin N) :
    Host.reduceAdd x (constant (F := Ideal) S_ .f32 0x00000000#32) h' h_S_ (ix2 r n) = x (ix3 r n 0) + x (ix3 r n 1) + x (ix3 r n 2) := by
  have h : (⟨3, ![16, N, 3]⟩ : Shape).Reduces [2] ⟨2, ![16, N]⟩ := ⟨h'.1, Nat.succ_pos _, h'.2⟩
  have hl : ∀ c : Fin 3, h.lift (ix2 r n) c = ix3 r n c := fun c => by
    funext a; match a with | ⟨0, _⟩ => rfl | ⟨1, _⟩ => rfl | ⟨2, _⟩ => rfl
  refine (Ideal.hostReduceAdd_single h' h x (Ideal.ofBits .f32 0x00000000#32) (ix2 r n)).trans ?_
  rw [Ideal.ofBits_zero_f32, zero_add]
  show ∑ c : Fin 3, x (h.lift (ix2 r n) c) = _
  rw [Fin.sum_univ_three, hl, hl, hl]

/-- The steps of farthest point sampling in batch `r` of the points. -/
def steps (x : FVec Ideal S16x8192x3 .f32) (r : Fin 16) (k : ℕ) : (Fin 8192 → EReal) × Fin 8192 :=
  run (fun n => x (ix3 r n 0)) (fun n => x (ix3 r n 1)) (fun n => x (ix3 r n 2)) k

/-- What the loop's buffers hold before the `k`-th test. -/
structure Holds (x : FVec Ideal S16x8192x3 .f32) (k : ℕ) (V : Valuation τ sig (Elt Ideal)) : Prop where
  points : V (Proc.devRef .tc main_v2_0) = x
  number : V (Proc.devRef .tc main_v2_2) = constantI S_ 32 (BitVec.ofNat 32 (k + 1))
  dist : ∀ r n, (V (Proc.devRef .tc main_v2_3) : FVec Ideal S16x8192 .f32) (ix2 r n) = (steps x r k).1 n
  chosen : ∀ r (g : Fin 512), g.val ≤ k → (V (Proc.devRef .tc main_v2_4) : IVec S16x512 32) (ix2 r g) = BitVec.ofNat 32 (steps x r g.val).2.val

/-- The next number. -/
theorem next_number (k : ℕ) : addi (constantI S_ 32 (BitVec.ofNat 32 k)) (constantI S_ 32 1#32) = constantI S_ 32 (BitVec.ofNat 32 (k + 1)) :=
  funext fun _ => (BitVec.ofNat_add k 1).symm

/-- The last number. -/
theorem last_number (k : ℕ) : subi (constantI S_ 32 (BitVec.ofNat 32 (k + 1))) (constantI S_ 32 1#32) = constantI S_ 32 (BitVec.ofNat 32 k) :=
  funext fun _ => by
    show BitVec.ofNat 32 (k + 1) - 1#32 = BitVec.ofNat 32 k
    rw [BitVec.ofNat_add]
    exact BitVec.add_sub_cancel _ _

/-- What the loop's buffers hold at its entry. -/
theorem holds_entry (m : (ℓ : Loc nD τ sig) → Buf (Elt Ideal) ℓ) (c : Dev nD) :
    Holds (m ((c.tc : Thread nD τ).loc main_arg0)) 0 (entryContents preI m c) where
  points := pre0_xyz (launchContents m c)
  number := pre0_i (launchContents m c)
  dist r n := congrFun (pre0_dist (launchContents m c)) (ix2 r n)
  chosen r g hg := (congrFun (pre0_idx (launchContents m c)) (ix2 r g)).trans (by
    rw [Nat.le_zero.mp hg]; rfl)

/-- One trip. -/
theorem holds_step (x : FVec Ideal S16x8192x3 .f32) (k : ℕ) (hk : k < 511) (V : Valuation τ sig (Elt Ideal)) (h : Holds x k V) :
    Holds x (k + 1) (afterL bodyI V) := by
  simp only [bodyI, afterL_cons, afterL_nil]
  -- the last chosen point
  have hat : ∀ r c, (after body0 V (Proc.devRef .tc main_while0b_v38) : IVec S16x1x3 32) (ix3 r 0 c) = BitVec.ofNat 32 (steps x r k).2.val := fun r c => by
    rw [body0_at, h.number, last_number]
    refine (broadcastInDim_apply _ _ _ _ (ix3 r 0 0) (fun a => match a with | ⟨0, _⟩ => rfl | ⟨1, _⟩ => rfl | ⟨2, _⟩ => rfl)).trans ?_
    refine (broadcastInDim_apply _ _ _ _ (ix2 r 0) (fun a => match a with | ⟨0, _⟩ => rfl | ⟨1, _⟩ => rfl)).trans ?_
    refine (column_slice _ _ k (by omega) rfl r 0).trans ?_
    exact h.chosen r ⟨k, by omega⟩ (le_refl _)
  have hx1 : after body0 V (Proc.devRef .tc main_v2_0) = x := (body0_keep _ _ (by decide)).trans h.points
  have hpt : ∀ r c, (after body1 (after body0 V) (Proc.devRef .tc main_while0b_v39) : FVec Ideal S16x1x3 .f32) (ix3 r 0 c) = x (ix3 r (steps x r k).2 c) := fun r c => by
    rw [body1_pt, hx1]
    refine gather_points 8192 1 (le_refl _) _ x _ _ r 0 c _ ?_
    exact wrap_small _ _ _ _ _ (steps x r k).2.isLt (hat r c)
  have hx2 : after body1 (after body0 V) (Proc.devRef .tc main_v2_0) = x := (body1_keep _ _ (by decide)).trans hx1
  have hd2 : after body1 (after body0 V) (Proc.devRef .tc main_v2_3) = V (Proc.devRef .tc main_v2_3) :=
    (body1_keep _ _ (by decide)).trans (body0_keep _ _ (by decide))
  have hi2 : after body1 (after body0 V) (Proc.devRef .tc main_while0b_v30) = constantI S_ 32 (BitVec.ofNat 32 (k + 2)) :=
    (body1_keep _ _ (by decide)).trans ((body0_i V).trans (by rw [h.number]; exact next_number (k + 1)))
  have hn2 : after body1 (after body0 V) (Proc.devRef .tc main_v2_2) = constantI S_ 32 (BitVec.ofNat 32 (k + 1)) :=
    (body1_keep _ _ (by decide)).trans ((body0_keep _ _ (by decide)).trans h.number)
  have ht2 : after body1 (after body0 V) (Proc.devRef .tc main_v2_4) = V (Proc.devRef .tc main_v2_4) :=
    (body1_keep _ _ (by decide)).trans (body0_keep _ _ (by decide))
  generalize after body1 (after body0 V) = V2 at hpt hx2 hd2 hi2 hn2 ht2 ⊢
  -- the lowered distances
  have haway : ∀ r n c, away (V2 (Proc.devRef .tc main_v2_0)) (V2 (Proc.devRef .tc main_while0b_v39)) (ix3 r n c) = x (ix3 r n c) - x (ix3 r (steps x r k).2 c) :=
    fun r n c => by
      rw [hx2]
      show x (ix3 r n c) - broadcastInDim S16x8192x3 _ _ _ (ix3 r n c) = _
      refine congrArg (x (ix3 r n c) - ·) ?_
      refine (broadcastInDim_apply _ _ _ _ (ix3 r 0 c) (fun a => match a with | ⟨0, _⟩ => rfl | ⟨1, _⟩ => rfl | ⟨2, _⟩ => rfl)).trans (hpt r c)
  have hd : ∀ r n, (after body2 V2 (Proc.devRef .tc main_while0b_v44) : FVec Ideal S16x8192 .f32) (ix2 r n) = (steps x r (k + 1)).1 n := fun r n => by
    rw [body2_dist]
    show min (α := EReal) ((V2 (Proc.devRef .tc main_v2_3) : S16x8192.Idx → EReal) (ix2 r n)) (Host.reduceAdd (F := Ideal) _ _ _ _ (ix2 r n)) = _
    rw [hd2, h.dist r n]
    refine congrArg (min ((steps x r k).1 n)) ((sum_coords 8192 _ _ r n).trans ?_)
    simp only [mulf_apply, haway]
    rfl
  have hx3 : after body2 V2 (Proc.devRef .tc main_v2_0) = x := (body2_keep _ _ (by decide)).trans hx2
  have hi3 := (body2_keep V2 main_while0b_v30 (by decide)).trans hi2
  have hn3 := (body2_keep V2 main_v2_2 (by decide)).trans hn2
  have ht3 := (body2_keep V2 main_v2_4 (by decide)).trans ht2
  generalize after body2 V2 = V3 at hd hx3 hi3 hn3 ht3 ⊢
  -- the next chosen point
  have hnext : ∀ r, (after body3 V3 (Proc.devRef .tc main_while0b_v45) : IVec S16 32) (ix1 r) = BitVec.ofNat 32 (steps x r (k + 1)).2.val := fun r => by
    rw [body3_next]
    refine (argmax_row _ r).trans (congrArg (fun d => BitVec.ofNat 32 (firstMax d).val) (funext fun n => hd r n))
  have hx4 := (body3_keep V3 main_v2_0 (by decide)).trans hx3
  have hi4 := (body3_keep V3 main_while0b_v30 (by decide)).trans hi3
  have hn4 := (body3_keep V3 main_v2_2 (by decide)).trans hn3
  have ht4 := (body3_keep V3 main_v2_4 (by decide)).trans ht3
  have hd4 := body3_keep V3 main_while0b_v44 (by decide)
  generalize after body3 V3 = V4 at hnext hx4 hi4 hn4 ht4 hd4 ⊢
  refine ⟨(body4_keep _ _ (by decide)).trans hx4, (body4_i V4).trans hi4, fun r n => ?_, fun r g hg => ?_⟩
  · rw [body4_dist, hd4]; exact hd r n
  · rw [body4_idx]
    refine (column_update _ _ _ (k + 1) (by omega) hn4 r g).trans ?_
    by_cases hgk : g.val = k + 1
    · rw [if_pos hgk, hgk]
      exact (broadcastInDim_apply _ _ _ _ (ix1 r) (fun a => match a with | ⟨0, _⟩ => rfl)).trans (hnext r)
    · rw [if_neg hgk, ht4]
      exact h.chosen r g (by omega)

/-- The test changes nothing that the loop reads. -/
theorem holds_test (x : FVec Ideal S16x8192x3 .f32) (k : ℕ) (V : Valuation τ sig (Elt Ideal)) (h : Holds x k V) : Holds x k (after condOps V) where
  points := (condOps_keep _ _ (by decide)).trans h.points
  number := (condOps_keep _ _ (by decide)).trans h.number
  dist r n := by rw [condOps_keep _ _ (by decide)]; exact h.dist r n
  chosen r g hg := by rw [condOps_keep _ _ (by decide)]; exact h.chosen r g hg

/-- Before every test. -/
theorem holds_atK (m : (ℓ : Loc nD τ sig) → Buf (Elt Ideal) ℓ) (c : Dev nD) : ∀ k, k ≤ 511 → Holds (m ((c.tc : Thread nD τ).loc main_arg0)) k (atK m k c)
  | 0, _ => holds_entry m c
  | k + 1, h => holds_step _ k (by omega) _ (holds_test _ k _ (holds_atK m c k (by omega)))

/-- At the loop's end the table holds every batch's 512 chosen points. -/
theorem table_end (m : (ℓ : Loc nD τ sig) → Buf (Elt Ideal) ℓ) (c : Dev nD) (r : Fin 16) (g : Fin 512) :
    (after condOps (atK m 511 c) (Proc.devRef .tc main_v2_4) : IVec S16x512 32) (ix2 r g)
      = BitVec.ofNat 32 (steps (m ((c.tc : Thread nD τ).loc main_arg0)) r g.val).2.val :=
  (holds_test _ 511 _ (holds_atK m c 511 (le_refl _))).chosen r g (by have := g.isLt; omega)

end Cert.ReferenceIdeal.Hand
-- ==== Proof.RefValue.lean ====
/- What the reference's results hold, over the extended reals: the centres, the number of every point's centre, and the
   grouped features. -/
module

public import proofs.«01_k».proof.Proof.RefTrip
public import proofs.«01_k».proof.Proof.Grouping

@[expose] public section

noncomputable section

namespace Cert.ReferenceIdeal.Hand

open Cert.ReferenceIdeal Cert.ReferenceIdeal.Gen Cert.Farthest Cert.Grouping
open Idealize.ShloMosaic.TcCoe Idealize.ShloMosaic.ValueIdx Idealize.SL.Sem Idealize.ShloMosaic.StableHlo
open Idealize.ShloMosaic hiding ix1 ix2 ix3 ix4

/-- The points of batch `r`. -/
abbrev batch (x : FVec Ideal S16x8192x3 .f32) (r : Fin 16) : Fin 8192 → Fin 3 → EReal := fun n c => x (ix3 r n c)

/-- The chosen points gathered are the centres. -/
theorem centres_value (x : FVec Ideal S16x8192x3 .f32) (V : Valuation τ sig (Elt Ideal)) (hx : V (Proc.devRef .tc main_arg0) = x)
    (ht : ∀ r (g : Fin 512), (V (Proc.devRef .tc main_v2_4) : IVec S16x512 32) (ix2 r g) = BitVec.ofNat 32 (Hand.steps x r g.val).2.val)
    (r : Fin 16) (g : Fin 512) (c : Fin 3) :
    (after post1 (after post0 V) (Proc.devRef .tc main_v5) : FVec Ideal S16x512x3 .f32) (ix3 r g c) = centre (batch x r) g c := by
  have hat : (after post0 V (Proc.devRef .tc main_v4) : IVec S16x512x3 32) (ix3 r g c) = BitVec.ofNat 32 (Hand.steps x r g.val).2.val := by
    rw [post0_at]
    refine (broadcastInDim_apply _ _ _ _ (ix3 r g 0) (fun a => match a with | ⟨0, _⟩ => rfl | ⟨1, _⟩ => rfl | ⟨2, _⟩ => rfl)).trans ?_
    refine (broadcastInDim_apply _ _ _ _ (ix2 r g) (fun a => match a with | ⟨0, _⟩ => rfl | ⟨1, _⟩ => rfl)).trans (ht r g)
  rw [post1_pts, post0_keep _ _ (by decide), hx]
  refine (gather_points 8192 512 (le_refl _) _ x _ _ r g c (Hand.steps x r g.val).2 ?_).trans rfl
  exact wrap_small _ _ _ _ _ (Hand.steps x r g.val).2.isLt hat

/-- The host's product of points and centres. -/
theorem dot_value (x : FVec Ideal S16x8192x3 .f32) (y : FVec Ideal S16x512x3 .f32) (r : Fin 16) (n : Fin 8192) (g : Fin 512) :
    Host.dotGeneral (F := Ideal) dot_S16x8192x3_S16x512x3_S16x8192x512_2_2_1_1_0_0 none x y (ix3 r n g)
      = dot3 (fun c => x (ix3 r n c)) (fun c => y (ix3 r g c)) := by
  simp only [Host.dotGeneral]
  refine (Ideal.dotGeneral_apply _ _ _ _ _ _).trans ?_
  refine (contract_apply dot_S16x8192x3_S16x512x3_S16x8192x512_2_2_1_1_0_0 (a := 2) rfl (K := 3) rfl x y (ix3 r n g)
    (fun c => ix3 r n c) (fun c => ix3 r g c) (fun c => ?_) (fun c => ?_)).trans ?_
  · funext a; match a with | ⟨0, _⟩ => rfl | ⟨1, _⟩ => rfl | ⟨2, _⟩ => rfl
  · funext a; match a with | ⟨0, _⟩ => rfl | ⟨1, _⟩ => rfl | ⟨2, _⟩ => rfl
  · rw [Fin.sum_univ_three]; rfl

/-- The expanded squared distance at an element. -/
theorem expanded_value (x : FVec Ideal S16x8192x3 .f32) (y : FVec Ideal S16x512x3 .f32) (r : Fin 16) (n : Fin 8192) (g : Fin 512) :
    expanded x y (ix3 r n g) = expand (fun c => x (ix3 r n c)) (fun c => y (ix3 r g c)) := by
  show ((broadcastInDim S16x8192x512 _ _ _ (ix3 r n g) : EReal) + broadcastInDim S16x8192x512 _ _ _ (ix3 r n g))
    - Ideal.ofBits .f32 0x40000000#32 * Host.dotGeneral (F := Ideal) _ _ _ _ (ix3 r n g) = _
  refine congrArg₂ (· - ·) (congrArg₂ (· + ·) ?_ ?_) (congrArg _ (dot_value x y r n g))
  · refine (broadcastInDim_apply _ _ _ _ (ix3 r n 0) (fun a => match a with | ⟨0, _⟩ => rfl | ⟨1, _⟩ => rfl | ⟨2, _⟩ => rfl)).trans ?_
    refine (broadcastInDim_apply _ _ _ _ (ix2 r n) (fun a => match a with | ⟨0, _⟩ => rfl | ⟨1, _⟩ => rfl)).trans ?_
    exact sum_coords 8192 _ _ r n
  · refine (broadcastInDim_apply _ _ _ _ (ix3 r 0 g) (fun a => match a with | ⟨0, _⟩ => rfl | ⟨1, _⟩ => rfl | ⟨2, _⟩ => rfl)).trans ?_
    refine (broadcastInDim_apply _ _ _ _ (ix2 r g) (fun a => match a with | ⟨0, _⟩ => rfl | ⟨1, _⟩ => rfl)).trans ?_
    exact sum_coords 512 _ _ r g

/-- The host's square root and quotient at an element. -/
theorem sqrt_apply_host {s : Shape} (x : FVec Ideal s .f32) (j : s.Idx) : Host.sqrt x j = Ideal.sqrt (x j) := rfl
theorem divf_apply_host {s : Shape} (x y : FVec Ideal s .f32) (j : s.Idx) : Host.divf x y j = Ideal.div (x j) (y j) := rfl

/-- Three arrays joined along the last axis, read at an element. -/
theorem joined_apply (A : S16x8192x3.Idx → EReal) (B : S16x8192x1.Idx → EReal) (C : S16x8192x64.Idx → EReal)
    (h : Shape.Concatenates ([⟨S16x8192x3, A⟩, ⟨S16x8192x1, B⟩, ⟨S16x8192x64, C⟩].map (fun p : (s : Shape) × (s.Idx → EReal) => p.1)) S16x8192x68 2)
    (r : Fin 16) (n : Fin 8192) (j : Fin 68) :
    concatenate S16x8192x68 2 [⟨S16x8192x3, A⟩, ⟨S16x8192x1, B⟩, ⟨S16x8192x64, C⟩] h (ix3 r n j)
      = if h : j.val < 3 then A (ix3 r n ⟨j.val, h⟩) else if j.val < 4 then B (ix3 r n 0) else C (ix3 r n ⟨j.val - 4, by omega⟩) := by
  split
  · rename_i hj
    refine concatenate_apply_piece (t := S16x8192x68) 2 [⟨S16x8192x3, A⟩, ⟨S16x8192x1, B⟩, ⟨S16x8192x64, C⟩] h (ix3 r n j) 0 (by simp) S16x8192x3 A rfl rfl 0 rfl
      (ix3 r n ⟨j.val, hj⟩) (fun b hb => ?_) (Nat.zero_add _)
    match b with
    | ⟨0, _⟩ => rfl
    | ⟨1, _⟩ => rfl
    | ⟨2, _⟩ => exact absurd rfl hb
  · split
    · rename_i hj hj'
      refine concatenate_apply_piece (t := S16x8192x68) 2 [⟨S16x8192x3, A⟩, ⟨S16x8192x1, B⟩, ⟨S16x8192x64, C⟩] h (ix3 r n j) 1 (by simp) S16x8192x1 B rfl rfl 3 rfl
        (ix3 r n 0) (fun b hb => ?_) (by show 3 + 0 = j.val; omega)
      match b with
      | ⟨0, _⟩ => rfl
      | ⟨1, _⟩ => rfl
      | ⟨2, _⟩ => exact absurd rfl hb
    · rename_i hj hj'
      refine concatenate_apply_piece (t := S16x8192x68) 2 [⟨S16x8192x3, A⟩, ⟨S16x8192x1, B⟩, ⟨S16x8192x64, C⟩] h (ix3 r n j) 2 (by simp) S16x8192x64 C rfl rfl 4 rfl
        (ix3 r n ⟨j.val - 4, by omega⟩) (fun b hb => ?_) (by show 4 + (j.val - 4) = j.val; omega)
      match b with
      | ⟨0, _⟩ => rfl
      | ⟨1, _⟩ => rfl
      | ⟨2, _⟩ => exact absurd rfl hb

/-- What the reference's three results hold. -/
theorem results (x : FVec Ideal S16x8192x3 .f32) (f : FVec Ideal S16x8192x64 .f32) (V : Valuation τ sig (Elt Ideal))
    (hx : V (Proc.devRef .tc main_arg0) = x) (hf : V (Proc.devRef .tc main_arg1) = f)
    (ht : ∀ r (g : Fin 512), (V (Proc.devRef .tc main_v2_4) : IVec S16x512 32) (ix2 r g) = BitVec.ofNat 32 (Hand.steps x r g.val).2.val) :
    (∀ r n j, (afterL postI V (Proc.devRef .tc main_v29) : FVec Ideal S16x8192x68 .f32) (ix3 r n j) = grouped (batch x r) (fun c => f (ix3 r n c)) n j)
    ∧ (∀ r g c, (afterL postI V (Proc.devRef .tc main_v5) : FVec Ideal S16x512x3 .f32) (ix3 r g c) = centre (batch x r) g c)
    ∧ (∀ r n, (afterL postI V (Proc.devRef .tc main_v19) : IVec S16x8192 32) (ix2 r n) = BitVec.ofNat 32 (nearest (batch x r) n).val) := by
  have hc := centres_value x V hx ht
  have hx1 : after post1 (after post0 V) (Proc.devRef .tc main_arg0) = x := (post1_keep _ _ (by decide)).trans ((post0_keep _ _ (by decide)).trans hx)
  have hf1 : after post1 (after post0 V) (Proc.devRef .tc main_arg1) = f := (post1_keep _ _ (by decide)).trans ((post0_keep _ _ (by decide)).trans hf)
  simp only [postI, afterL_cons, afterL_nil]
  generalize after post1 (after post0 V) = V1 at hc hx1 hf1 ⊢
  -- the distances and the nearest centre
  have hd : ∀ r n g, (after post2 V1 (Proc.devRef .tc main_v18) : FVec Ideal S16x8192x512 .f32) (ix3 r n g) = expand (batch x r n) (centre (batch x r) g) :=
    fun r n g => by
      rw [post2_dist, hx1]
      exact (expanded_value x _ r n g).trans (congrArg (expand _) (funext fun c => hc r g c))
  have hc2 : ∀ r g c, (after post2 V1 (Proc.devRef .tc main_v5) : FVec Ideal S16x512x3 .f32) (ix3 r g c) = centre (batch x r) g c := fun r g c => by
    rw [post2_keep _ _ (by decide)]; exact hc r g c
  have hx2 := (post2_keep V1 main_arg0 (by decide)).trans hx1
  have hf2 := (post2_keep V1 main_arg1 (by decide)).trans hf1
  generalize after post2 V1 = V2 at hd hc2 hx2 hf2 ⊢
  have hn : ∀ r n, (after post3 V2 (Proc.devRef .tc main_v19) : IVec S16x8192 32) (ix2 r n) = BitVec.ofNat 32 (nearest (batch x r) n).val := fun r n => by
    rw [post3_near]
    exact (argmin_row _ r n).trans (congrArg (fun d => BitVec.ofNat 32 (firstMin d).val) (funext fun g => hd r n g))
  have hc3 : ∀ r g c, (after post3 V2 (Proc.devRef .tc main_v5) : FVec Ideal S16x512x3 .f32) (ix3 r g c) = centre (batch x r) g c := fun r g c => by
    rw [post3_keep _ _ (by decide)]; exact hc2 r g c
  have hx3 := (post3_keep V2 main_arg0 (by decide)).trans hx2
  have hf3 := (post3_keep V2 main_arg1 (by decide)).trans hf2
  generalize after post3 V2 = V3 at hn hc3 hx3 hf3 ⊢
  -- the nearest centres gathered
  have hat : ∀ r n c, (after post4 V3 (Proc.devRef .tc main_v21) : IVec S16x8192x3 32) (ix3 r n c) = BitVec.ofNat 32 (nearest (batch x r) n).val := fun r n c => by
    rw [post4_at]
    refine (broadcastInDim_apply _ _ _ _ (ix3 r n 0) (fun a => match a with | ⟨0, _⟩ => rfl | ⟨1, _⟩ => rfl | ⟨2, _⟩ => rfl)).trans ?_
    exact (broadcastInDim_apply _ _ _ _ (ix2 r n) (fun a => match a with | ⟨0, _⟩ => rfl | ⟨1, _⟩ => rfl)).trans (hn r n)
  have hs : ∀ r n c, (after post5 (after post4 V3) (Proc.devRef .tc main_v22) : FVec Ideal S16x8192x3 .f32) (ix3 r n c)
      = centre (batch x r) (nearest (batch x r) n) c := fun r n c => by
    rw [post5_sel, post4_keep _ _ (by decide)]
    refine (gather_points 512 8192 (by decide) _ _ _ _ r n c (nearest (batch x r) n) ?_).trans (hc3 r _ c)
    exact wrap_small _ _ _ _ _ (lt_of_lt_of_le (nearest (batch x r) n).isLt (by decide)) (hat r n c)
  have hn5 : after post5 (after post4 V3) (Proc.devRef .tc main_v19) = V3 (Proc.devRef .tc main_v19) := (post5_keep _ _ (by decide)).trans (post4_keep _ _ (by decide))
  have hc5 : after post5 (after post4 V3) (Proc.devRef .tc main_v5) = V3 (Proc.devRef .tc main_v5) := (post5_keep _ _ (by decide)).trans (post4_keep _ _ (by decide))
  have hx5 := (post5_keep (after post4 V3) main_arg0 (by decide)).trans ((post4_keep V3 main_arg0 (by decide)).trans hx3)
  have hf5 := (post5_keep (after post4 V3) main_arg1 (by decide)).trans ((post4_keep V3 main_arg1 (by decide)).trans hf3)
  generalize after post5 (after post4 V3) = V5 at hs hn5 hc5 hx5 hf5 ⊢
  -- the differences and their lengths
  have ho : ∀ r n c, (after post6 V5 (Proc.devRef .tc main_v23) : FVec Ideal S16x8192x3 .f32) (ix3 r n c) = offset (batch x r) n c := fun r n c => by
    rw [post6_nbr, hx5]
    show x (ix3 r n c) - (_ : EReal) = _
    exact congrArg (x (ix3 r n c) - ·) (hs r n c)
  have hl : ∀ r n, (after post7 (after post6 V5) (Proc.devRef .tc main_v24) : FVec Ideal S16x8192x1 .f32) (ix3 r n 0) = length (batch x r) n := fun r n => by
    rw [post7_norm]
    refine (sqrt_apply_host _ _).trans (congrArg Ideal.sqrt ?_)
    refine (broadcastInDim_apply _ _ _ _ (ix2 r n) (fun a => match a with | ⟨0, _⟩ => rfl | ⟨1, _⟩ => rfl)).trans ?_
    refine (sum_coords 8192 _ _ r n).trans ?_
    simp only [mulf_apply, ho]
    rfl
  have ho7 : ∀ r n c, (after post7 (after post6 V5) (Proc.devRef .tc main_v23) : FVec Ideal S16x8192x3 .f32) (ix3 r n c) = offset (batch x r) n c := fun r n c => by
    rw [post7_keep _ _ (by decide)]; exact ho r n c
  have hn7 := (post7_keep (after post6 V5) main_v19 (by decide)).trans ((post6_keep V5 main_v19 (by decide)).trans hn5)
  have hc7 := (post7_keep (after post6 V5) main_v5 (by decide)).trans ((post6_keep V5 main_v5 (by decide)).trans hc5)
  have hf7 := (post7_keep (after post6 V5) main_arg1 (by decide)).trans ((post6_keep V5 main_arg1 (by decide)).trans hf5)
  generalize after post7 (after post6 V5) = V7 at hl ho7 hn7 hc7 hf7 ⊢
  refine ⟨fun r n j => ?_, fun r g c => ?_, fun r n => ?_⟩
  · rw [post8_out, joined_apply, grouped]
    refine dite_congr rfl (fun h => ?_) fun h => ite_congr rfl (fun h' => hl r n) fun h' => congrFun hf7 _
    refine (divf_apply_host _ _ _).trans (congrArg₂ Ideal.div (ho7 r n _) ?_)
    refine (broadcastInDim_apply _ _ _ _ (ix3 r n 0) (fun a => match a with | ⟨0, _⟩ => rfl | ⟨1, _⟩ => rfl | ⟨2, _⟩ => rfl)).trans ?_
    exact congrArg (max · (Ideal.ofBits .f32 0x322BCC77#32)) (hl r n)
  · rw [post8_keep _ _ (by decide), hc7]; exact hc3 r g c
  · rw [post8_keep _ _ (by decide), hn7]; exact hn r n

/-- What they hold at the end of the run. -/
theorem final_results (m : (ℓ : Loc nD τ sig) → Buf (Elt Ideal) ℓ) (c : Dev nD) (x : FVec Ideal S16x8192x3 .f32) (f : FVec Ideal S16x8192x64 .f32)
    (hx : m ((c.tc : Thread nD τ).loc main_arg0) = x) (hf : m ((c.tc : Thread nD τ).loc main_arg1) = f) :
    (∀ r n j, (finalContents condOps preI bodyI postI 511 m c (Proc.devRef .tc main_v29) : FVec Ideal S16x8192x68 .f32) (ix3 r n j)
      = grouped (batch x r) (fun c => f (ix3 r n c)) n j)
    ∧ (∀ r g k, (finalContents condOps preI bodyI postI 511 m c (Proc.devRef .tc main_v5) : FVec Ideal S16x512x3 .f32) (ix3 r g k) = centre (batch x r) g k)
    ∧ (∀ r n, (finalContents condOps preI bodyI postI 511 m c (Proc.devRef .tc main_v19) : IVec S16x8192 32) (ix2 r n) = BitVec.ofNat 32 (nearest (batch x r) n).val) := by
  subst hx hf
  exact results _ _ _ ((condOps_keep _ main_arg0 (by decide)).trans (atK_arg0 m c 511)) ((condOps_keep _ main_arg1 (by decide)).trans (atK_arg1 m c 511))
    (table_end m c)

end Cert.ReferenceIdeal.Hand
-- ==== Proof.Agree.lean ====
/-
  Over the extended reals, from finite points, the kernel program and the reference end with the same three results.
-/
module

public import proofs.«01_k».proof.Proof.KernelArrays
public import proofs.«01_k».proof.Proof.RefValue
public import proofs.«01_k».proof.Defs
public import Idealize.ShloMosaic.Lib.ReduceAll

@[expose] public section

noncomputable section

namespace Cert.Agree

open Cert.Farthest Cert.Grouping
open Idealize.ShloMosaic.TcCoe Idealize.ShloMosaic.ValueIdx Idealize.SL.Sem
open Idealize.ShloMosaic hiding ix1 ix2 ix3 ix4

/-- What the precondition says of every coordinate of every point. -/
theorem finite_of_pre [Cert.Pre_finite_points.Facts] (x : FVec Ideal Cert.Pre_finite_points.S16x8192x3 .f32) (f : FVec Ideal Cert.Pre_finite_points.S16x8192x64 .f32)
    (h : Cert.Pre_finite_points.fn (F := Ideal) x f = fun _ => 1#1) (i : Cert.Pre_finite_points.S16x8192x3.Idx) : x i ≠ ⊤ ∧ x i ≠ ⊥ := by
  haveI : Subsingleton Cert.Pre_finite_points.S_.Idx := ⟨fun a b => funext fun k => k.elim0⟩
  have hi := Host.reduce_andi_all _ _ _ _ (Shape.Idx.first Cert.Pre_finite_points.Facts.h_S_) (congrFun h _) i
  have ht : Ideal.ofBits .f32 0x7F800000#32 = ⊤ := by simp [Ideal.ofBits, Ideal.ieee]
  have hlt : max (x i) (-(x i)) < Ideal.ofBits .f32 0x7F800000#32 := by
    have hb : BitVec.ofBool (decide (max (x i) (-(x i)) < Ideal.ofBits .f32 0x7F800000#32)) = 1#1 := hi
    by_contra hn
    rw [decide_eq_false hn] at hb
    exact absurd hb (by decide)
  rw [ht] at hlt
  have h1 := (le_max_left _ _).trans_lt hlt
  have h2 := (le_max_right _ _).trans_lt hlt
  refine ⟨h1.ne, fun e => ?_⟩
  rw [e, EReal.neg_bot] at h2
  exact absurd h2 (lt_irrefl _)

/-- The two programs end with the same results. -/
theorem agree [hK : Cert.KernelIdeal.Facts] [hR : Cert.ReferenceIdeal.Facts] [hP : Cert.Pre_finite_points.Facts] :
    Cert.algebraic_KernelIdeal_ReferenceIdeal_pre_finite_points := by
  intro m g m' g' hpre hargs
  have hs : ∀ (c : Dev Cert.KernelIdeal.nD) r n k, KernelIdeal.GroupBody.spread (KernelIdeal.Arrays.batch (m ((c.tc : Thread Cert.KernelIdeal.nD Cert.KernelIdeal.τ).loc Cert.KernelIdeal.main_arg0)) r n)
      (centre (KernelIdeal.Arrays.batch (m ((c.tc : Thread Cert.KernelIdeal.nD Cert.KernelIdeal.τ).loc Cert.KernelIdeal.main_arg0)) r) k)
      = expand (KernelIdeal.Arrays.batch (m ((c.tc : Thread Cert.KernelIdeal.nD Cert.KernelIdeal.τ).loc Cert.KernelIdeal.main_arg0)) r n)
        (centre (KernelIdeal.Arrays.batch (m ((c.tc : Thread Cert.KernelIdeal.nD Cert.KernelIdeal.τ).loc Cert.KernelIdeal.main_arg0)) r) k) := fun c r n k =>
    KernelIdeal.GroupBody.spread_eq _ _ (fun _ => finite_of_pre _ _ (hpre c) _) (fun _ => finite_of_pre _ _ (hpre c) _)
  refine ⟨fun c => Cert.KernelIdeal.Gen.W5 m g c (Proc.devRef .tc Cert.KernelIdeal.main_v15_0), fun c => Cert.KernelIdeal.Gen.W5 m g c (Proc.devRef .tc Cert.KernelIdeal.main_v10),
    fun c => Cert.KernelIdeal.Gen.W5 m g c (Proc.devRef .tc Cert.KernelIdeal.main_v16), ?_, ?_⟩
  · refine (θ_run Cert.KernelIdeal.defs _ _).mono (fun r h c => ?_) (Cert.KernelIdeal.Gen.contents m g)
    exact ⟨h.1 c _ (Cert.KernelIdeal.Gen.mem_uc _ (by decide)), h.1 c _ (Cert.KernelIdeal.Gen.mem_uc _ (by decide)), h.1 c _ (Cert.KernelIdeal.Gen.mem_uc _ (by decide)),
      (h.1 c _ (Cert.KernelIdeal.Gen.mem_uc Cert.KernelIdeal.main_arg0 (by decide))).trans (Cert.KernelIdeal.Gen.W5_main_arg0 m g c),
      (h.1 c _ (Cert.KernelIdeal.Gen.mem_uc Cert.KernelIdeal.main_arg1 (by decide))).trans (Cert.KernelIdeal.Gen.W5_main_arg1 m g c)⟩
  · refine (θ_run Cert.ReferenceIdeal.defs _ _).mono (fun r h c => ?_) (Cert.ReferenceIdeal.Hand.run_fold m' g')
    obtain ⟨h1, h2, h3⟩ := Cert.ReferenceIdeal.Hand.final_results m' c _ _ (hargs c).1 (hargs c).2
    refine ⟨(h c Cert.ReferenceIdeal.main_v29 rfl).trans ?_, (h c Cert.ReferenceIdeal.main_v5 rfl).trans ?_, (h c Cert.ReferenceIdeal.main_v19 rfl).trans ?_,
      (h c Cert.ReferenceIdeal.main_arg0 rfl).trans (Cert.ReferenceIdeal.Hand.final_arg0 m' c), (h c Cert.ReferenceIdeal.main_arg1 rfl).trans (Cert.ReferenceIdeal.Hand.final_arg1 m' c)⟩
    · refine Eq.trans ?_ (Cert.KernelIdeal.Arrays.groups_result m g c _ _ rfl rfl (hs c)).symm
      refine funext fun (i : Cert.KernelIdeal.S16x8192x68.Idx) => ?_
      obtain ⟨r, n, j, rfl⟩ : ∃ (r : Fin 16) (n : Fin 8192) (j : Fin 68), i = ix3 r n j := ⟨i 0, i 1, i 2, ValueIdx.eq_ix3 i⟩
      exact h1 r n j
    · refine Eq.trans ?_ (Cert.KernelIdeal.Arrays.centres_result m g c _ rfl).symm
      refine funext fun (i : Cert.KernelIdeal.S16x512x3.Idx) => ?_
      obtain ⟨r, k, j, rfl⟩ : ∃ (r : Fin 16) (k : Fin 512) (j : Fin 3), i = ix3 r k j := ⟨i 0, i 1, i 2, ValueIdx.eq_ix3 i⟩
      exact h2 r k j
    · refine Eq.trans ?_ (Cert.KernelIdeal.Arrays.numbers_result m g c _ rfl (hs c)).symm
      refine funext fun (i : Cert.KernelIdeal.S16x8192.Idx) => ?_
      obtain ⟨r, n, rfl⟩ : ∃ (r : Fin 16) (n : Fin 8192), i = ix2 r n := ⟨i 0, i 1, ValueIdx.eq_ix2 i⟩
      exact h3 r n

end Cert.Agree
-- ==== Proof.lean ====
/-
  The proof of `Cert.Claim` (Defs.lean): the frames of the kernel, of the ideal kernel and of the reference, the preservation, and
  the equality of the three results over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_finite_points
public import proofs.«01_k».proof.Proof.FrameKernel
public import proofs.«01_k».proof.Proof.FrameIdeal
public import proofs.«01_k».proof.Proof.RefFrame
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_points.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Hand.frame m ρ,
  fun m ρ _ => Cert.ReferenceIdeal.Hand.frame m ρ,
  trivial,
  @Cert.Agree.agree Cert.KernelIdeal.Gen.facts Cert.ReferenceIdeal.Gen.facts Cert.Pre_finite_points.Gen.facts⟩

end Cert.Proof

end
